-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_1)) (v1 : (c : Dev Cert.KernelIdeal.nD) → Buf (Elt Ideal) ((c.tc : Thread Cert.KernelIdeal.nD Cert.KernelIdeal.τ).loc Cert.KernelIdeal.main_v1_2)) (v2 : (c : Dev Cert.KernelIdeal.nD) → Buf (Elt Ideal) ((c.tc : Thread Cert.KernelIdeal.nD Cert.KernelIdeal.τ).loc Cert.KernelIdeal.main_v1_0)) (v3 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_1) = v0 c
          ∧ r.2.mem ((c.tc : Thread Cert.KernelIdeal.nD Cert.KernelIdeal.τ).loc Cert.KernelIdeal.main_v1_2) = v1 c
          ∧ r.2.mem ((c.tc : Thread Cert.KernelIdeal.nD Cert.KernelIdeal.τ).loc Cert.KernelIdeal.main_v1_0) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10x1024x10240 : Shape := ⟨3, ![10, 1024, 10240]⟩
abbrev S1024x256 : Shape := ⟨2, ![1024, 256]⟩
abbrev S256 : Shape := ⟨1, ![256]⟩
abbrev S1x256 : Shape := ⟨2, ![1, 256]⟩
abbrev S1x256x10240 : Shape := ⟨3, ![1, 256, 10240]⟩
abbrev S1x10240 : Shape := ⟨2, ![1, 10240]⟩
abbrev S16x10240 : Shape := ⟨2, ![16, 10240]⟩
abbrev S16x640 : Shape := ⟨2, ![16, 640]⟩
abbrev S1x16 : Shape := ⟨2, ![1, 16]⟩
abbrev S16x16 : Shape := ⟨2, ![16, 16]⟩
abbrev S16x1x16 : Shape := ⟨3, ![16, 1, 16]⟩
abbrev S16x40x16 : Shape := ⟨3, ![16, 40, 16]⟩
abbrev S640x16 : Shape := ⟨2, ![640, 16]⟩
abbrev S1x640 : Shape := ⟨2, ![1, 640]⟩
abbrev S1x256x256 : Shape := ⟨3, ![1, 256, 256]⟩
abbrev S256x256 : Shape := ⟨2, ![256, 256]⟩
abbrev S16x16x256 : Shape := ⟨3, ![16, 16, 256]⟩
abbrev S16x256 : Shape := ⟨2, ![16, 256]⟩
abbrev S10240 : Shape := ⟨1, ![10240]⟩
abbrev S1016x256 : Shape := ⟨2, ![1016, 256]⟩
abbrev S7x256 : Shape := ⟨2, ![7, 256]⟩

abbrev nBuf : Space → Nat
  | .hbm => 8
  | .vmem => 12
  | .smem => 0
  | _ => 0

abbrev bufTy : (tb : Table) → Fin (tcTables nBuf tb) → BufTy
  | .hbm, ⟨0, _⟩ => ⟨S10x1024x10240, .bf16⟩
  | .hbm, ⟨1, _⟩ => ⟨S1024x256, .f32⟩
  | .hbm, ⟨2, _⟩ => ⟨S256, .f32⟩
  | .hbm, ⟨3, _⟩ => ⟨S1x256, .f32⟩
  | .hbm, ⟨4, _⟩ => ⟨S10x1024x10240, .fp8e4m3⟩
  | .hbm, ⟨5, _⟩ => ⟨S1x256, .f32⟩
  | .hbm, ⟨6, _⟩ => ⟨S1x256, .f32⟩
  | .hbm, ⟨7, _⟩ => ⟨S1x256, .f32⟩
  | .local _ .vmem, ⟨0, _⟩ => ⟨S1x256, .f32⟩
  | .local _ .vmem, ⟨1, _⟩ => ⟨S1024x256, .f32⟩
  | .local _ .vmem, ⟨2, _⟩ => ⟨S1x256x10240, .bf16⟩
  | .local _ .vmem, ⟨3, _⟩ => ⟨S1x256x10240, .bf16⟩
  | .local _ .vmem, ⟨4, _⟩ => ⟨S1x256x10240, .fp8e4m3⟩
  | .local _ .vmem, ⟨5, _⟩ => ⟨S1x256x10240, .fp8e4m3⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x10240, .f32⟩
  | .local _ .vmem, ⟨10, _⟩ => ⟨S16x10240, .bf16⟩
  | .local _ .vmem, ⟨11, _⟩ => ⟨S16x640, .f32⟩
  | _, _ => ⟨S10x1024x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨2, ![10, 4], ![false, false]⟩

def k0_cond2 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c39_i32 : BitVec 32 := 39#32
  let v885 : BitVec 1 := Scalar.cmpi .eq v1 c39_i32
  let v886 : BitVec 32 := Scalar.extui v885
  let c0_i32_560 : BitVec 32 := 0#32
  let v887 : BitVec 1 := Scalar.cmpi .ne v886 c0_i32_560
  v887

def k0_cond1 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x10240 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x10240 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== ReferenceIdeal.lean ====
abbrev S10x1024x10240 : Shape := ⟨3, ![10, 1024, 10240]⟩
abbrev S1024x256 : Shape := ⟨2, ![1024, 256]⟩
abbrev S256 : Shape := ⟨1, ![256]⟩
abbrev S1x256 : Shape := ⟨2, ![1, 256]⟩
abbrev S10240x256x40 : Shape := ⟨3, ![10240, 256, 40]⟩
abbrev S1023x256 : Shape := ⟨2, ![1023, 256]⟩
abbrev S10x1024x256x40 : Shape := ⟨4, ![10, 1024, 256, 40]⟩
abbrev S256x1 : Shape := ⟨2, ![256, 1]⟩
abbrev S1x1x256x1 : Shape := ⟨4, ![1, 1, 256, 1]⟩

abbrev nBuf : Space → Nat
  | .hbm => 7
  | .vmem => 7
  | .smem => 0
  | _ => 0

abbrev bufTy : (tb : Table) → Fin (tcTables nBuf tb) → BufTy
  | .hbm, ⟨0, _⟩ => ⟨S10x1024x10240, .bf16⟩
  | .hbm, ⟨1, _⟩ => ⟨S1024x256, .f32⟩
  | .hbm, ⟨2, _⟩ => ⟨S256, .f32⟩
  | .hbm, ⟨3, _⟩ => ⟨S1x256, .f32⟩
  | .hbm, ⟨4, _⟩ => ⟨S1x256, .f32⟩
  | .hbm, ⟨5, _⟩ => ⟨S10x1024x10240, .fp8e4m3⟩
  | .hbm, ⟨6, _⟩ => ⟨S1x256, .f32⟩
  | .local _ .vmem, ⟨0, _⟩ => ⟨S10x1024x10240, .bf16⟩
  | .local _ .vmem, ⟨1, _⟩ => ⟨S1024x256, .f32⟩
  | .local _ .vmem, ⟨2, _⟩ => ⟨S256, .f32⟩
  | .local _ .vmem, ⟨3, _⟩ => ⟨S1x256, .f32⟩
  | .local _ .vmem, ⟨4, _⟩ => ⟨S1x256, .f32⟩
  | .local _ .vmem, ⟨5, _⟩ => ⟨S10x1024x10240, .fp8e4m3⟩
  | .local _ .vmem, ⟨6, _⟩ => ⟨S1x256, .f32⟩
  | _, _ => ⟨S10x1024x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S10x1024x10240 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S10x1024x10240 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KRuns.lean ====
/-
   The pipeline up to the kernel body: what the region finds, the blocks the windows read, where each output is
   stored, idle or written back, and the memrefs the body is called on.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 2).trans (((dats 0 c).arrAt_in 2 rfl _).trans ((hA c 2).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — decided over the grid. -/
theorem hcond0_0 : ∀ t : Fin cfg0.N, cond0_0 (grid0.coords t) ↔ t.val % 40 = 0 :=
  (by decide +kernel : ∀ t : Fin grid0.N, cond0_0 (grid0.coords t) ↔ t.val % 40 = 0)

/-- The condition of the body's `scf.if` 1 (`k0_h2`), from the grid coordinates (the skeleton's scalar
    chain substituted). -/
abbrev cond0_1 (i : grid0.Coords) : Prop := k0_cond2 i = 1#1
/-- It holds at the last point only — decided over the grid. -/
theorem hcond0_1 : ∀ t : Fin cfg0.N, cond0_1 (grid0.coords t) ↔ t.val % 40 = 39 :=
  (by decide +kernel : ∀ t : Fin grid0.N, cond0_1 (grid0.coords t) ↔ t.val % 40 = 39)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an output stored at every point, under no condition). -/
theorem liveAt0_3 : ∀ t : Fin cfg0.N, cfg0.idle 3 (grid0.coords t) = false := fun _ => rfl
/-- At the points of case A the printed configuration (`Cfg.idle`) calls output 4 idle: the case stores nothing into it. -/
theorem idleAt0_4_A : ∀ t : Fin cfg0.N, cond0_0 (grid0.coords t) → ¬cond0_1 (grid0.coords t) → cfg0.idle 4 (grid0.coords t) = true := by decide +kernel
/-- At the points of case A the pipeline does not write output 4's block back. -/
theorem noFlush0_4_A : ∀ t : Fin cfg0.N, cond0_0 (grid0.coords t) → ¬cond0_1 (grid0.coords t) → (cfg0.win 4).flush t = false := by decide +kernel
/-- At the points of case B the printed configuration (`Cfg.idle`) calls output 4 idle: the case stores nothing into it. -/
theorem idleAt0_4_B : ∀ t : Fin cfg0.N, ¬cond0_0 (grid0.coords t) → ¬cond0_1 (grid0.coords t) → cfg0.idle 4 (grid0.coords t) = true := by decide +kernel
/-- At the points of case B the pipeline does not write output 4's block back. -/
theorem noFlush0_4_B : ∀ t : Fin cfg0.N, ¬cond0_0 (grid0.coords t) → ¬cond0_1 (grid0.coords t) → (cfg0.win 4).flush t = false := by decide +kernel
/-- At the points of case C the printed configuration (`Cfg.idle`) calls output 4 live: the case stores into it. -/
theorem liveAt0_4_C : ∀ t : Fin cfg0.N, ¬cond0_0 (grid0.coords t) → cond0_1 (grid0.coords t) → cfg0.idle 4 (grid0.coords t) = false := by decide +kernel
/-- At the points of case A the printed configuration (`Cfg.idle`) calls output 5 idle: the case stores nothing into it. -/
theorem idleAt0_5_A : ∀ t : Fin cfg0.N, cond0_0 (grid0.coords t) → ¬cond0_1 (grid0.coords t) → cfg0.idle 5 (grid0.coords t) = true := by decide +kernel
/-- At the points of case A the pipeline does not write output 5's block back. -/
theorem noFlush0_5_A : ∀ t : Fin cfg0.N, cond0_0 (grid0.coords t) → ¬cond0_1 (grid0.coords t) → (cfg0.win 5).flush t = false := by decide +kernel
/-- At the points of case B the printed configuration (`Cfg.idle`) calls output 5 idle: the case stores nothing into it. -/
theorem idleAt0_5_B : ∀ t : Fin cfg0.N, ¬cond0_0 (grid0.coords t) → ¬cond0_1 (grid0.coords t) → cfg0.idle 5 (grid0.coords t) = true := by decide +kernel
/-- At the points of case B the pipeline does not write output 5's block back. -/
theorem noFlush0_5_B : ∀ t : Fin cfg0.N, ¬cond0_0 (grid0.coords t) → ¬cond0_1 (grid0.coords t) → (cfg0.win 5).flush t = false := by decide +kernel
/-- At the points of case C the printed configuration (`Cfg.idle`) calls output 5 live: the case stores into it. -/
theorem liveAt0_5_C : ∀ t : Fin cfg0.N, ¬cond0_0 (grid0.coords t) → cond0_1 (grid0.coords t) → cfg0.idle 5 (grid0.coords t) = false := by decide +kernel
/-- Whether output 6's buffer is FRESH at each position `1 ‥ N` — holds nothing the body stored since the region's entry or the
    last write-back (written back at the point before, or idle there and fresh before it) —, as a bitmask the classifier
    computed, bit `n` for position `n + 1`; position 0 is fresh. `freshTab0_6_step` checks it against the configuration's own
    step point by point and Lib/Pipeline/TableIdle.lean `Cfg.fresh_tab` makes it `Cfg.fresh` (`fresh0_6_eq`). -/
def freshTab0_6 : ℕ → Bool
  | 0 => true
  | n + 1 => (0x8000000000 : ℕ).testBit n
theorem freshTab0_6_step : ∀ t : Fin cfg0.N,
    freshTab0_6 (t.val + 1) = ((cfg0.win 6).flush t || (cfg0.idle 6 (cfg0.grid.coords t) && freshTab0_6 t.val)) := by decide +kernel
theorem fresh0_6_eq (t : Fin cfg0.N) : cfg0.fresh 6 t.val = freshTab0_6 t.val :=
  Pipeline.Cfg.fresh_tab cfg0 6 freshTab0_6 rfl freshTab0_6_step t.val (Nat.le_of_lt t.isLt)
/-- At the points of case A the printed configuration (`Cfg.idle`) calls output 6 live: the case stores into it. -/
theorem liveAt0_6_A : ∀ t : Fin cfg0.N, cond0_0 (grid0.coords t) → ¬cond0_1 (grid0.coords t) → cfg0.idle 6 (grid0.coords t) = false := by decide +kernel
/-- At the points of case B the printed configuration (`Cfg.idle`) calls output 6 idle: the case stores nothing into it. -/
theorem idleAt0_6_B : ∀ t : Fin cfg0.N, ¬cond0_0 (grid0.coords t) → ¬cond0_1 (grid0.coords t) → cfg0.idle 6 (grid0.coords t) = true := by decide +kernel
/-- At the points of case B the pipeline does not write output 6's block back. -/
theorem noFlush0_6_B : ∀ t : Fin cfg0.N, ¬cond0_0 (grid0.coords t) → ¬cond0_1 (grid0.coords t) → (cfg0.win 6).flush t = false := by decide +kernel
/-- At the points of case C the printed configuration (`Cfg.idle`) calls output 6 idle: the case stores nothing into it. -/
theorem idleAt0_6_C : ∀ t : Fin cfg0.N, ¬cond0_0 (grid0.coords t) → cond0_1 (grid0.coords t) → cfg0.idle 6 (grid0.coords t) = true := by decide +kernel
/-- At the points of case C the pipeline writes output 6's block back. -/
theorem flushAt0_6_C : ∀ t : Fin cfg0.N, ¬cond0_0 (grid0.coords t) → cond0_1 (grid0.coords t) → (cfg0.win 6).flush t = true := by decide +kernel
/-- At the points of case C, which keeps output 6's prior contents (reads it before covering, or covers it in part), the
    window's buffer is not FRESH: something was stored into it since the region's entry or its last write-back, idle points
    between or not (Lib/Pipeline/TableIdle.lean `Cfg.fresh`, by the table `freshTab0_6`). -/
theorem notFresh0_6_C : ∀ t : Fin cfg0.N, ¬cond0_0 (grid0.coords t) → cond0_1 (grid0.coords t) → cfg0.fresh 6 t.val = false := by
  intro t; rw [fresh0_6_eq t]; revert t; decide +kernel

/-! ## The kernel body on any staging memrefs: a subtype the run finds -/

/-- One staging buffer of output window 3, through which its contents are stated (`View.read_writes_of_cover`: the
    choice does not matter). -/
abbrev VO0_3 : View sig .tc .vmem S1x256x10240 .fp8e4m3 := (Memref.whole cc0_stg3_0 : Memref sig .tc .vmem S1x256x10240 .fp8e4m3).view
/-- One staging buffer of output window 4, through which its contents are stated (`View.read_writes_of_cover`: the
    choice does not matter). -/
abbrev VO0_4 : View sig .tc .vmem S1x256 .f32 := (Memref.whole cc0_stg4_0 : Memref sig .tc .vmem S1x256 .f32).view
/-- One staging buffer of output window 5, through which its contents are stated (`View.read_writes_of_cover`: the
    choice does not matter). -/
abbrev VO0_5 : View sig .tc .vmem S1x256 .f32 := (Memref.whole cc0_stg5_0 : Memref sig .tc .vmem S1x256 .f32).view
/-- One staging buffer of output window 6, through which its contents are stated (`View.read_writes_of_cover`: the
    choice does not matter). -/
abbrev VO0_6 : View sig .tc .vmem S1x256 .f32 := (Memref.whole cc0_stg6_0 : Memref sig .tc .vmem S1x256 .f32).view
/-- Each window's current staging memref at point `t`, spelled as the pipeline passes it (`bodyAt0`), and its wholeness. -/
abbrev ms0_0 (t : Fin cfg0.N) : Memref sig .tc .vmem S1x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x10240 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x10240 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S1x10240 .f32 := Memref.whole cc0_scratch0
abbrev scM0_1 : Memref sig .tc .vmem S16x10240 .bf16 := Memref.whole cc0_scratch1
abbrev scM0_2 : Memref sig .tc .vmem S16x640 .f32 := Memref.whole cc0_scratch2
/-- The scratch `arg9` the kernel carries between points, as a view: what it holds is stated through it. -/
abbrev VS0_0 : View sig .tc .vmem S1x10240 .f32 := scM0_0.view
/-- The scratch `arg10` the kernel carries between points, as a view: what it holds is stated through it. -/
abbrev VS0_1 : View sig .tc .vmem S16x10240 .bf16 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Gen

end
-- ==== Proof.KRunA.lean ====
/-
   The kernel body's run at grid point 0 (the first `pl.when` taken, the last one not), found by symbolic execution.
-/
module

public import proofs.«01_k».proof.Proof.KRuns

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2112000 in
/-- What the body's stores leave in each output's staging memref, as pieces (last first) IN CASE A (`scf.if` 0 taken, `scf.if` 1 not taken: points 0), WITH the
    proof that on whole staging memrefs — the inputs' at their contents, the outputs it leaves idle (4, 5: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S1x256 .f32) (harg2 : arg2.IsWhole) (arg3 : Memref sig .tc .vmem S1024x256 .f32) (harg3 : arg3.IsWhole) (arg4 : Memref sig .tc .vmem S1x256x10240 .bf16) (harg4 : arg4.IsWhole) (arg5 : Memref sig .tc .vmem S1x256x10240 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x10240 .f32) (harg9 : arg9.IsWhole) (arg10 : Memref sig .tc .vmem S16x10240 .bf16) (harg10 : arg10.IsWhole) (arg11 : Memref sig .tc .vmem S16x640 .f32) (harg11 : arg11.IsWhole) (hc0 : cond0_0 i) (hc1 : ¬cond0_1 i)
    (x0 : Vec F S1x256 .f32) (x1 : Vec F S1024x256 .f32) (x2 : Vec F S1x256x10240 .bf16) :
    Σ' (L3 : List (View.Piece (Elt F) S1x256x10240 .fp8e4m3)), Σ' (L4 : List (View.Piece (Elt F) S1x256 .f32)), Σ' (L5 : List (View.Piece (Elt F) S1x256 .f32)), Σ' (L6 : List (View.Piece (Elt F) S1x256 .f32)), Σ' (LS0 : List (View.Piece (Elt F) S1x10240 .f32)), Σ' (LS1 : List (View.Piece (Elt F) S16x10240 .bf16)), { LT2 : List (View.Piece (Elt F) S16x640 .f32) //
      ∀ (xi4 : Vec F S1x256 .f32) (xi5 : Vec F S1x256 .f32) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xi4 ∗ owns (c : Thread nD τ) arg7 fullShare xi5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xi4 ∗ owns (c : Thread nD τ) arg7 fullShare xi5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ d, owns (c : Thread nD τ) arg11 fullShare d)) -∗ K ⟨⟩))
          ⊢ wp frame (wpE (defs₀ (F := F)) Variants.none c none) E (cc0_fp8_step i arg2 harg2 arg3 harg3 arg4 harg4 arg5 harg5 arg6 harg6 arg7 harg7 arg8 harg8 arg9 harg9 arg10 harg10 arg11 harg11) K } := by
  refine ⟨?_, [], [], ?_, ?_, ?_, [], fun xi4 xi5 E K => ?run⟩
  case run =>
    simp only [cc0_fp8_step_eq_skeleton]; unfold cc0_fp8_step_skel
    simp only [k0_part7_eq_skeleton, k0_part1_eq_skeleton, k0_part2_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg6.eq_unread hf4; obtain rfl := harg7.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    isplitl [HS1]; · iexists _; iexact HS1
    iexists _, _; isplitr; swap; · iexact HS2
    ipureintro; rfl

end Cert.KernelIdeal.Gen

end
-- ==== Proof.KRunB.lean ====
/-
   The kernel body's run at grid points 1 to 38 (neither `pl.when` taken), found by symbolic execution.
-/
module

public import proofs.«01_k».proof.Proof.KRunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1876000 in
/-- What the body's stores leave in each output's staging memref, as pieces (last first) IN CASE B (`scf.if` 0 not taken, `scf.if` 1 not taken: points 1, 2, … 38: 38 of 40), WITH the
    proof that on whole staging memrefs — the inputs' at their contents, the outputs it leaves idle (4, 5, 6: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S1x256 .f32) (harg2 : arg2.IsWhole) (arg3 : Memref sig .tc .vmem S1024x256 .f32) (harg3 : arg3.IsWhole) (arg4 : Memref sig .tc .vmem S1x256x10240 .bf16) (harg4 : arg4.IsWhole) (arg5 : Memref sig .tc .vmem S1x256x10240 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x10240 .f32) (harg9 : arg9.IsWhole) (arg10 : Memref sig .tc .vmem S16x10240 .bf16) (harg10 : arg10.IsWhole) (arg11 : Memref sig .tc .vmem S16x640 .f32) (harg11 : arg11.IsWhole) (hc0 : ¬cond0_0 i) (hc1 : ¬cond0_1 i)
    (x0 : Vec F S1x256 .f32) (x1 : Vec F S1024x256 .f32) (x2 : Vec F S1x256x10240 .bf16) (xs0 : Vec F S1x10240 .f32) (xs1 : Vec F S16x10240 .bf16) :
    Σ' (L3 : List (View.Piece (Elt F) S1x256x10240 .fp8e4m3)), Σ' (L4 : List (View.Piece (Elt F) S1x256 .f32)), Σ' (L5 : List (View.Piece (Elt F) S1x256 .f32)), Σ' (L6 : List (View.Piece (Elt F) S1x256 .f32)), Σ' (LS0 : List (View.Piece (Elt F) S1x10240 .f32)), Σ' (LS1 : List (View.Piece (Elt F) S16x10240 .bf16)), { LT2 : List (View.Piece (Elt F) S16x640 .f32) //
      ∀ (xi4 : Vec F S1x256 .f32) (xi5 : Vec F S1x256 .f32) (xi6 : Vec F S1x256 .f32) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xi4 ∗ owns (c : Thread nD τ) arg7 fullShare xi5 ∗ owns (c : Thread nD τ) arg8 fullShare xi6 ∗ owns (c : Thread nD τ) arg9 fullShare xs0 ∗ owns (c : Thread nD τ) arg10 fullShare xs1 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xi4 ∗ owns (c : Thread nD τ) arg7 fullShare xi5 ∗ owns (c : Thread nD τ) arg8 fullShare xi6 ∗ owns (c : Thread nD τ) arg9 fullShare xs0 ∗ (∃ f, arg10.view.loc (c : Thread nD τ) ↦[arg10.view.set]{fullShare} arg10.view.writes (Elt F) f LS1) ∗ (∃ d, owns (c : Thread nD τ) arg11 fullShare d)) -∗ K ⟨⟩))
          ⊢ wp frame (wpE (defs₀ (F := F)) Variants.none c none) E (cc0_fp8_step i arg2 harg2 arg3 harg3 arg4 harg4 arg5 harg5 arg6 harg6 arg7 harg7 arg8 harg8 arg9 harg9 arg10 harg10 arg11 harg11) K } := by
  refine ⟨?_, [], [], [], [], ?_, [], fun xi4 xi5 xi6 E K => ?run⟩
  case run =>
    simp only [cc0_fp8_step_eq_skeleton]; unfold cc0_fp8_step_skel
    simp only [k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%f6, %hf6, H6⟩, ⟨%fs0, %hfs0, HS0⟩, ⟨%fs1, %hfs1, HS1⟩, ⟨%ds2, %fs2, -, HS2⟩, Hk⟩
    obtain rfl := harg2.eq_unread hf0; obtain rfl := harg3.eq_unread hf1; obtain rfl := harg4.eq_unread hf2; obtain rfl := harg6.eq_unread hf4; obtain rfl := harg7.eq_unread hf5; obtain rfl := harg8.eq_unread hf6; obtain rfl := harg9.eq_unread hfs0; obtain rfl := harg10.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]
    · iexists _; isplitr; · ipureintro; exact harg9.read_unread _
      iexact HS0
    isplitl [HS1]; · iexists _; iexact HS1
    iexists _, _; isplitr; swap; · iexact HS2
    ipureintro; rfl

end Cert.KernelIdeal.Gen

end
-- ==== Proof.KRunC.lean ====
/-
   The kernel body's run at grid point 39 (the last `pl.when` taken), found by symbolic execution. The body
   stores nothing into the scale block there (window 6): it hands that buffer back as it found it.
-/
module

public import proofs.«01_k».proof.Proof.KRunB

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2160000 in
/-- What the body's stores leave in each output's staging memref, as pieces (last first) IN CASE C (`scf.if` 0 not taken, `scf.if` 1 taken: points 39), WITH the
    proof that on whole staging memrefs — the inputs' at their contents, the outputs it reads before covering (6) at their running contents `xo·`, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg2 : Memref sig .tc .vmem S1x256 .f32) (harg2 : arg2.IsWhole) (arg3 : Memref sig .tc .vmem S1024x256 .f32) (harg3 : arg3.IsWhole) (arg4 : Memref sig .tc .vmem S1x256x10240 .bf16) (harg4 : arg4.IsWhole) (arg5 : Memref sig .tc .vmem S1x256x10240 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x10240 .f32) (harg9 : arg9.IsWhole) (arg10 : Memref sig .tc .vmem S16x10240 .bf16) (harg10 : arg10.IsWhole) (arg11 : Memref sig .tc .vmem S16x640 .f32) (harg11 : arg11.IsWhole) (hc0 : ¬cond0_0 i) (hc1 : cond0_1 i)
    (x0 : Vec F S1x256 .f32) (x1 : Vec F S1024x256 .f32) (x2 : Vec F S1x256x10240 .bf16) (xo6 : Vec F S1x256 .f32) (xs0 : Vec F S1x10240 .f32) (xs1 : Vec F S16x10240 .bf16) :
    Σ' (L3 : List (View.Piece (Elt F) S1x256x10240 .fp8e4m3)), Σ' (L4 : List (View.Piece (Elt F) S1x256 .f32)), Σ' (L5 : List (View.Piece (Elt F) S1x256 .f32)), Σ' (L6 : List (View.Piece (Elt F) S1x256 .f32)), Σ' (LS0 : List (View.Piece (Elt F) S1x10240 .f32)), Σ' (LS1 : List (View.Piece (Elt F) S16x10240 .bf16)), { LT2 : List (View.Piece (Elt F) S16x640 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xo6 ∗ owns (c : Thread nD τ) arg9 fullShare xs0 ∗ owns (c : Thread nD τ) arg10 fullShare xs1 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ owns (c : Thread nD τ) arg8 fullShare xo6 ∗ owns (c : Thread nD τ) arg9 fullShare xs0 ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LT2)) -∗ K ⟨⟩))
          ⊢ wp frame (wpE (defs₀ (F := F)) Variants.none c none) E (cc0_fp8_step i arg2 harg2 arg3 harg3 arg4 harg4 arg5 harg5 arg6 harg6 arg7 harg7 arg8 harg8 arg9 harg9 arg10 harg10 arg11 harg11) K } := by
  refine ⟨?_, ?_, ?_, [], [], ?_, ?_, fun E K => ?run⟩
  case run =>
    simp only [cc0_fp8_step_eq_skeleton]; unfold cc0_fp8_step_skel
    simp only [k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%f6, %hf6, H6⟩, ⟨%fs0, %hfs0, HS0⟩, ⟨%fs1, %hfs1, HS1⟩, ⟨%ds2, %fs2, -, HS2⟩, Hk⟩
    obtain rfl := harg2.eq_unread hf0; obtain rfl := harg3.eq_unread hf1; obtain rfl := harg4.eq_unread hf2; obtain rfl := harg8.eq_unread hf6; obtain rfl := harg9.eq_unread hfs0; obtain rfl := harg10.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    isplitl [H6]
    · iexists _; isplitr; · ipureintro; exact harg8.read_unread _
      iexact H6
    isplitl [HS0]
    · iexists _; isplitr; · ipureintro; exact harg9.read_unread _
      iexact HS0
    isplitl [HS1]; · iexists _; iexact HS1
    iexists _; iexact HS2

end Cert.KernelIdeal.Gen

end
-- ==== Proof.KFrame.lean ====
/-
   What each output and each carried scratch holds point by point, the proof data of the pipeline, the body
   obligation, the whole run and the frame claim. Window 6 (the scale used) is stored at point 0 alone and written
   back at point 39, where it still holds what point 0 stored: it is carried through all the points between.
-/
module

public import proofs.«01_k».proof.Proof.KRunC
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 3 tile its block (40 stores of `S1x256x256`, checked by the kernel's evaluation: Lib/Ring.lean `Piece.tiledL`, linear in the pieces, through a loop's `@[irreducible]` trip theorem too), so they cover it. -/
theorem cover0_A_3 (c : Dev nD) (i : grid0.Coords) (arg2 : Memref sig .tc .vmem S1x256 .f32) (harg2 : arg2.IsWhole) (arg3 : Memref sig .tc .vmem S1024x256 .f32) (harg3 : arg3.IsWhole) (arg4 : Memref sig .tc .vmem S1x256x10240 .bf16) (harg4 : arg4.IsWhole) (arg5 : Memref sig .tc .vmem S1x256x10240 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x10240 .f32) (harg9 : arg9.IsWhole) (arg10 : Memref sig .tc .vmem S16x10240 .bf16) (harg10 : arg10.IsWhole) (arg11 : Memref sig .tc .vmem S16x640 .f32) (harg11 : arg11.IsWhole) (hc0 : cond0_0 i) (hc1 : ¬cond0_1 i)
    (x0 : Vec F S1x256 .f32) (x1 : Vec F S1024x256 .f32) (x2 : Vec F S1x256x10240 .bf16) (y : S1x256x10240.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2).1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2).1 S1x256x256.size (by sl_kernel_rfl) y

/-- What case A leaves in output 3's staging buffer: its pieces read back over junk. -/
def out0_A_3 (c : Dev nD) (i : grid0.Coords) (arg2 : Memref sig .tc .vmem S1x256 .f32) (harg2 : arg2.IsWhole) (arg3 : Memref sig .tc .vmem S1024x256 .f32) (harg3 : arg3.IsWhole) (arg4 : Memref sig .tc .vmem S1x256x10240 .bf16) (harg4 : arg4.IsWhole) (arg5 : Memref sig .tc .vmem S1x256x10240 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x10240 .f32) (harg9 : arg9.IsWhole) (arg10 : Memref sig .tc .vmem S16x10240 .bf16) (harg10 : arg10.IsWhole) (arg11 : Memref sig .tc .vmem S16x640 .f32) (harg11 : arg11.IsWhole) (hc0 : cond0_0 i) (hc1 : ¬cond0_1 i)
    (x0 : Vec F S1x256 .f32) (x1 : Vec F S1024x256 .f32) (x2 : Vec F S1x256x10240 .bf16) : Vec F S1x256x10240 .fp8e4m3 :=
  VO0_3.read (Elt F) (VO0_3.writes (Elt F) VO0_3.junk (kernelRun0_A c i arg2 harg2 arg3 harg3 arg4 harg4 arg5 harg5 arg6 harg6 arg7 harg7 arg8 harg8 arg9 harg9 arg10 harg10 arg11 harg11 hc0 hc1 x0 x1 x2).1)

/-- Case A stores nothing into output 4 (the window is idle at its points and not written back there):
    no pieces — a placeholder (junk read back) that nothing consults, since at these points the window is neither
    written back nor read at the next point (Lib/Pipeline.lean "Idle points"). -/
def out0_A_4 (c : Dev nD) (i : grid0.Coords) (arg2 : Memref sig .tc .vmem S1x256 .f32) (harg2 : arg2.IsWhole) (arg3 : Memref sig .tc .vmem S1024x256 .f32) (harg3 : arg3.IsWhole) (arg4 : Memref sig .tc .vmem S1x256x10240 .bf16) (harg4 : arg4.IsWhole) (arg5 : Memref sig .tc .vmem S1x256x10240 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x10240 .f32) (harg9 : arg9.IsWhole) (arg10 : Memref sig .tc .vmem S16x10240 .bf16) (harg10 : arg10.IsWhole) (arg11 : Memref sig .tc .vmem S16x640 .f32) (harg11 : arg11.IsWhole) (hc0 : cond0_0 i) (hc1 : ¬cond0_1 i)
    (x0 : Vec F S1x256 .f32) (x1 : Vec F S1024x256 .f32) (x2 : Vec F S1x256x10240 .bf16) : Vec F S1x256 .f32 :=
  VO0_4.read (Elt F) (VO0_4.writes (Elt F) VO0_4.junk (kernelRun0_A c i arg2 harg2 arg3 harg3 arg4 harg4 arg5 harg5 arg6 harg6 arg7 harg7 arg8 harg8 arg9 harg9 arg10 harg10 arg11 harg11 hc0 hc1 x0 x1 x2).2.1)

/-- Case A stores nothing into output 5 (the window is idle at its points and not written back there):
    no pieces — a placeholder (junk read back) that nothing consults, since at these points the window is neither
    written back nor read at the next point (Lib/Pipeline.lean "Idle points"). -/
def out0_A_5 (c : Dev nD) (i : grid0.Coords) (arg2 : Memref sig .tc .vmem S1x256 .f32) (harg2 : arg2.IsWhole) (arg3 : Memref sig .tc .vmem S1024x256 .f32) (harg3 : arg3.IsWhole) (arg4 : Memref sig .tc .vmem S1x256x10240 .bf16) (harg4 : arg4.IsWhole) (arg5 : Memref sig .tc .vmem S1x256x10240 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x10240 .f32) (harg9 : arg9.IsWhole) (arg10 : Memref sig .tc .vmem S16x10240 .bf16) (harg10 : arg10.IsWhole) (arg11 : Memref sig .tc .vmem S16x640 .f32) (harg11 : arg11.IsWhole) (hc0 : cond0_0 i) (hc1 : ¬cond0_1 i)
    (x0 : Vec F S1x256 .f32) (x1 : Vec F S1024x256 .f32) (x2 : Vec F S1x256x10240 .bf16) : Vec F S1x256 .f32 :=
  VO0_5.read (Elt F) (VO0_5.writes (Elt F) VO0_5.junk (kernelRun0_A c i arg2 harg2 arg3 harg3 arg4 harg4 arg5 harg5 arg6 harg6 arg7 harg7 arg8 harg8 arg9 harg9 arg10 harg10 arg11 harg11 hc0 hc1 x0 x1 x2).2.2.1)

/-- Case A's pieces for output 6 tile its block (1 store of `S1x256`, checked by the kernel's evaluation: Lib/Ring.lean `Piece.tiledL`, linear in the pieces, through a loop's `@[irreducible]` trip theorem too), so they cover it. -/
theorem cover0_A_6 (c : Dev nD) (i : grid0.Coords) (arg2 : Memref sig .tc .vmem S1x256 .f32) (harg2 : arg2.IsWhole) (arg3 : Memref sig .tc .vmem S1024x256 .f32) (harg3 : arg3.IsWhole) (arg4 : Memref sig .tc .vmem S1x256x10240 .bf16) (harg4 : arg4.IsWhole) (arg5 : Memref sig .tc .vmem S1x256x10240 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x10240 .f32) (harg9 : arg9.IsWhole) (arg10 : Memref sig .tc .vmem S16x10240 .bf16) (harg10 : arg10.IsWhole) (arg11 : Memref sig .tc .vmem S16x640 .f32) (harg11 : arg11.IsWhole) (hc0 : cond0_0 i) (hc1 : ¬cond0_1 i)
    (x0 : Vec F S1x256 .f32) (x1 : Vec F S1024x256 .f32) (x2 : Vec F S1x256x10240 .bf16) (y : S1x256.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2).2.2.2.1 S1x256.size (by sl_kernel_rfl) y

/-- What case A leaves in output 6's staging buffer: its pieces read back over junk. -/
def out0_A_6 (c : Dev nD) (i : grid0.Coords) (arg2 : Memref sig .tc .vmem S1x256 .f32) (harg2 : arg2.IsWhole) (arg3 : Memref sig .tc .vmem S1024x256 .f32) (harg3 : arg3.IsWhole) (arg4 : Memref sig .tc .vmem S1x256x10240 .bf16) (harg4 : arg4.IsWhole) (arg5 : Memref sig .tc .vmem S1x256x10240 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x10240 .f32) (harg9 : arg9.IsWhole) (arg10 : Memref sig .tc .vmem S16x10240 .bf16) (harg10 : arg10.IsWhole) (arg11 : Memref sig .tc .vmem S16x640 .f32) (harg11 : arg11.IsWhole) (hc0 : cond0_0 i) (hc1 : ¬cond0_1 i)
    (x0 : Vec F S1x256 .f32) (x1 : Vec F S1024x256 .f32) (x2 : Vec F S1x256x10240 .bf16) : Vec F S1x256 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 hc0 hc1 x0 x1 x2).2.2.2.1)

/-- Case A's pieces for scratch `arg9`, which the kernel carries between points, cover it: 16 pieces of `S1x640` tiling it (Lib/Ring.lean `Piece.tiledL`). -/
theorem scover0_A_0 (c : Dev nD) (i : grid0.Coords) (arg2 : Memref sig .tc .vmem S1x256 .f32) (harg2 : arg2.IsWhole) (arg3 : Memref sig .tc .vmem S1024x256 .f32) (harg3 : arg3.IsWhole) (arg4 : Memref sig .tc .vmem S1x256x10240 .bf16) (harg4 : arg4.IsWhole) (arg5 : Memref sig .tc .vmem S1x256x10240 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x10240 .f32) (harg9 : arg9.IsWhole) (arg10 : Memref sig .tc .vmem S16x10240 .bf16) (harg10 : arg10.IsWhole) (arg11 : Memref sig .tc .vmem S16x640 .f32) (harg11 : arg11.IsWhole) (hc0 : cond0_0 i) (hc1 : ¬cond0_1 i)
    (x0 : Vec F S1x256 .f32) (x1 : Vec F S1024x256 .f32) (x2 : Vec F S1x256x10240 .bf16) (y : S1x10240.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2).2.2.2.2.1 S1x640.size (by sl_kernel_rfl) y

/-- What case A leaves in scratch `arg9`: its pieces read back over junk. -/
def sout0_A_0 (c : Dev nD) (i : grid0.Coords) (arg2 : Memref sig .tc .vmem S1x256 .f32) (harg2 : arg2.IsWhole) (arg3 : Memref sig .tc .vmem S1024x256 .f32) (harg3 : arg3.IsWhole) (arg4 : Memref sig .tc .vmem S1x256x10240 .bf16) (harg4 : arg4.IsWhole) (arg5 : Memref sig .tc .vmem S1x256x10240 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x10240 .f32) (harg9 : arg9.IsWhole) (arg10 : Memref sig .tc .vmem S16x10240 .bf16) (harg10 : arg10.IsWhole) (arg11 : Memref sig .tc .vmem S16x640 .f32) (harg11 : arg11.IsWhole) (hc0 : cond0_0 i) (hc1 : ¬cond0_1 i)
    (x0 : Vec F S1x256 .f32) (x1 : Vec F S1024x256 .f32) (x2 : Vec F S1x256x10240 .bf16) : Vec F S1x10240 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 hc1 x0 x1 x2).2.2.2.2.1)

/-- Case A's pieces for scratch `arg10`, which the kernel carries between points, cover it: one of them a store of the WHOLE buffer (Lib/Ring.lean `sl_whole_mem`). -/
theorem scover0_A_1 (c : Dev nD) (i : grid0.Coords) (arg2 : Memref sig .tc .vmem S1x256 .f32) (harg2 : arg2.IsWhole) (arg3 : Memref sig .tc .vmem S1024x256 .f32) (harg3 : arg3.IsWhole) (arg4 : Memref sig .tc .vmem S1x256x10240 .bf16) (harg4 : arg4.IsWhole) (arg5 : Memref sig .tc .vmem S1x256x10240 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x10240 .f32) (harg9 : arg9.IsWhole) (arg10 : Memref sig .tc .vmem S16x10240 .bf16) (harg10 : arg10.IsWhole) (arg11 : Memref sig .tc .vmem S16x640 .f32) (harg11 : arg11.IsWhole) (hc0 : cond0_0 i) (hc1 : ¬cond0_1 i)
    (x0 : Vec F S1x256 .f32) (x1 : Vec F S1024x256 .f32) (x2 : Vec F S1x256x10240 .bf16) (y : S16x10240.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2).2.2.2.2.2.1, y ∈ pc.1.set :=
  View.cover_of_wholeMem (kernelRun0_A c i arg2 harg2 arg3 harg3 arg4 harg4 arg5 harg5 arg6 harg6 arg7 harg7 arg8 harg8 arg9 harg9 arg10 harg10 arg11 harg11 hc0 hc1 x0 x1 x2).2.2.2.2.2.1 (by sl_whole_mem) y

/-- What case A leaves in scratch `arg10`: its pieces read back over junk. -/
def sout0_A_1 (c : Dev nD) (i : grid0.Coords) (arg2 : Memref sig .tc .vmem S1x256 .f32) (harg2 : arg2.IsWhole) (arg3 : Memref sig .tc .vmem S1024x256 .f32) (harg3 : arg3.IsWhole) (arg4 : Memref sig .tc .vmem S1x256x10240 .bf16) (harg4 : arg4.IsWhole) (arg5 : Memref sig .tc .vmem S1x256x10240 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x10240 .f32) (harg9 : arg9.IsWhole) (arg10 : Memref sig .tc .vmem S16x10240 .bf16) (harg10 : arg10.IsWhole) (arg11 : Memref sig .tc .vmem S16x640 .f32) (harg11 : arg11.IsWhole) (hc0 : cond0_0 i) (hc1 : ¬cond0_1 i)
    (x0 : Vec F S1x256 .f32) (x1 : Vec F S1024x256 .f32) (x2 : Vec F S1x256x10240 .bf16) : Vec F S16x10240 .bf16 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 hc0 hc1 x0 x1 x2).2.2.2.2.2.1)

/-- Case B's pieces for output 3 tile its block (40 stores of `S1x256x256`, checked by the kernel's evaluation: Lib/Ring.lean `Piece.tiledL`, linear in the pieces, through a loop's `@[irreducible]` trip theorem too), so they cover it. -/
theorem cover0_B_3 (c : Dev nD) (i : grid0.Coords) (arg2 : Memref sig .tc .vmem S1x256 .f32) (harg2 : arg2.IsWhole) (arg3 : Memref sig .tc .vmem S1024x256 .f32) (harg3 : arg3.IsWhole) (arg4 : Memref sig .tc .vmem S1x256x10240 .bf16) (harg4 : arg4.IsWhole) (arg5 : Memref sig .tc .vmem S1x256x10240 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x10240 .f32) (harg9 : arg9.IsWhole) (arg10 : Memref sig .tc .vmem S16x10240 .bf16) (harg10 : arg10.IsWhole) (arg11 : Memref sig .tc .vmem S16x640 .f32) (harg11 : arg11.IsWhole) (hc0 : ¬cond0_0 i) (hc1 : ¬cond0_1 i)
    (x0 : Vec F S1x256 .f32) (x1 : Vec F S1024x256 .f32) (x2 : Vec F S1x256x10240 .bf16) (xs0 : Vec F S1x10240 .f32) (xs1 : Vec F S16x10240 .bf16) (y : S1x256x10240.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 xs0 xs1).1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 xs0 xs1).1 S1x256x256.size (by sl_kernel_rfl) y

/-- What case B leaves in output 3's staging buffer: its pieces read back over junk. -/
def out0_B_3 (c : Dev nD) (i : grid0.Coords) (arg2 : Memref sig .tc .vmem S1x256 .f32) (harg2 : arg2.IsWhole) (arg3 : Memref sig .tc .vmem S1024x256 .f32) (harg3 : arg3.IsWhole) (arg4 : Memref sig .tc .vmem S1x256x10240 .bf16) (harg4 : arg4.IsWhole) (arg5 : Memref sig .tc .vmem S1x256x10240 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x10240 .f32) (harg9 : arg9.IsWhole) (arg10 : Memref sig .tc .vmem S16x10240 .bf16) (harg10 : arg10.IsWhole) (arg11 : Memref sig .tc .vmem S16x640 .f32) (harg11 : arg11.IsWhole) (hc0 : ¬cond0_0 i) (hc1 : ¬cond0_1 i)
    (x0 : Vec F S1x256 .f32) (x1 : Vec F S1024x256 .f32) (x2 : Vec F S1x256x10240 .bf16) (xs0 : Vec F S1x10240 .f32) (xs1 : Vec F S16x10240 .bf16) : Vec F S1x256x10240 .fp8e4m3 :=
  VO0_3.read (Elt F) (VO0_3.writes (Elt F) VO0_3.junk (kernelRun0_B c i arg2 harg2 arg3 harg3 arg4 harg4 arg5 harg5 arg6 harg6 arg7 harg7 arg8 harg8 arg9 harg9 arg10 harg10 arg11 harg11 hc0 hc1 x0 x1 x2 xs0 xs1).1)

/-- Case B stores nothing into output 4 (the window is idle at its points and not written back there):
    no pieces — a placeholder (junk read back) that nothing consults, since at these points the window is neither
    written back nor read at the next point (Lib/Pipeline.lean "Idle points"). -/
def out0_B_4 (c : Dev nD) (i : grid0.Coords) (arg2 : Memref sig .tc .vmem S1x256 .f32) (harg2 : arg2.IsWhole) (arg3 : Memref sig .tc .vmem S1024x256 .f32) (harg3 : arg3.IsWhole) (arg4 : Memref sig .tc .vmem S1x256x10240 .bf16) (harg4 : arg4.IsWhole) (arg5 : Memref sig .tc .vmem S1x256x10240 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x10240 .f32) (harg9 : arg9.IsWhole) (arg10 : Memref sig .tc .vmem S16x10240 .bf16) (harg10 : arg10.IsWhole) (arg11 : Memref sig .tc .vmem S16x640 .f32) (harg11 : arg11.IsWhole) (hc0 : ¬cond0_0 i) (hc1 : ¬cond0_1 i)
    (x0 : Vec F S1x256 .f32) (x1 : Vec F S1024x256 .f32) (x2 : Vec F S1x256x10240 .bf16) (xs0 : Vec F S1x10240 .f32) (xs1 : Vec F S16x10240 .bf16) : Vec F S1x256 .f32 :=
  VO0_4.read (Elt F) (VO0_4.writes (Elt F) VO0_4.junk (kernelRun0_B c i arg2 harg2 arg3 harg3 arg4 harg4 arg5 harg5 arg6 harg6 arg7 harg7 arg8 harg8 arg9 harg9 arg10 harg10 arg11 harg11 hc0 hc1 x0 x1 x2 xs0 xs1).2.1)

/-- Case B stores nothing into output 5 (the window is idle at its points and not written back there):
    no pieces — a placeholder (junk read back) that nothing consults, since at these points the window is neither
    written back nor read at the next point (Lib/Pipeline.lean "Idle points"). -/
def out0_B_5 (c : Dev nD) (i : grid0.Coords) (arg2 : Memref sig .tc .vmem S1x256 .f32) (harg2 : arg2.IsWhole) (arg3 : Memref sig .tc .vmem S1024x256 .f32) (harg3 : arg3.IsWhole) (arg4 : Memref sig .tc .vmem S1x256x10240 .bf16) (harg4 : arg4.IsWhole) (arg5 : Memref sig .tc .vmem S1x256x10240 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x10240 .f32) (harg9 : arg9.IsWhole) (arg10 : Memref sig .tc .vmem S16x10240 .bf16) (harg10 : arg10.IsWhole) (arg11 : Memref sig .tc .vmem S16x640 .f32) (harg11 : arg11.IsWhole) (hc0 : ¬cond0_0 i) (hc1 : ¬cond0_1 i)
    (x0 : Vec F S1x256 .f32) (x1 : Vec F S1024x256 .f32) (x2 : Vec F S1x256x10240 .bf16) (xs0 : Vec F S1x10240 .f32) (xs1 : Vec F S16x10240 .bf16) : Vec F S1x256 .f32 :=
  VO0_5.read (Elt F) (VO0_5.writes (Elt F) VO0_5.junk (kernelRun0_B c i arg2 harg2 arg3 harg3 arg4 harg4 arg5 harg5 arg6 harg6 arg7 harg7 arg8 harg8 arg9 harg9 arg10 harg10 arg11 harg11 hc0 hc1 x0 x1 x2 xs0 xs1).2.2.1)

/-- Case B stores nothing into output 6 (the window is idle at its points and not written back there) and another
    case keeps its prior contents (reads it before covering, or covers it in part): what its buffer holds after the body is what the
    point before left, CARRIED — an argument of this term alone, which the run does not take (Lib/Pipeline/TableIdle.lean `Dat.before_out_traj`). -/
def out0_B_6 (c : Dev nD) (i : grid0.Coords) (arg2 : Memref sig .tc .vmem S1x256 .f32) (harg2 : arg2.IsWhole) (arg3 : Memref sig .tc .vmem S1024x256 .f32) (harg3 : arg3.IsWhole) (arg4 : Memref sig .tc .vmem S1x256x10240 .bf16) (harg4 : arg4.IsWhole) (arg5 : Memref sig .tc .vmem S1x256x10240 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x10240 .f32) (harg9 : arg9.IsWhole) (arg10 : Memref sig .tc .vmem S16x10240 .bf16) (harg10 : arg10.IsWhole) (arg11 : Memref sig .tc .vmem S16x640 .f32) (harg11 : arg11.IsWhole) (hc0 : ¬cond0_0 i) (hc1 : ¬cond0_1 i)
    (x0 : Vec F S1x256 .f32) (x1 : Vec F S1024x256 .f32) (x2 : Vec F S1x256x10240 .bf16) (xs0 : Vec F S1x10240 .f32) (xs1 : Vec F S16x10240 .bf16) (xo6 : Vec F S1x256 .f32) : Vec F S1x256 .f32 := xo6

/-- Case B stores nothing into scratch `arg9`: it holds what the point before left. -/
def sout0_B_0 (c : Dev nD) (i : grid0.Coords) (arg2 : Memref sig .tc .vmem S1x256 .f32) (harg2 : arg2.IsWhole) (arg3 : Memref sig .tc .vmem S1024x256 .f32) (harg3 : arg3.IsWhole) (arg4 : Memref sig .tc .vmem S1x256x10240 .bf16) (harg4 : arg4.IsWhole) (arg5 : Memref sig .tc .vmem S1x256x10240 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x10240 .f32) (harg9 : arg9.IsWhole) (arg10 : Memref sig .tc .vmem S16x10240 .bf16) (harg10 : arg10.IsWhole) (arg11 : Memref sig .tc .vmem S16x640 .f32) (harg11 : arg11.IsWhole) (hc0 : ¬cond0_0 i) (hc1 : ¬cond0_1 i)
    (x0 : Vec F S1x256 .f32) (x1 : Vec F S1024x256 .f32) (x2 : Vec F S1x256x10240 .bf16) (xs0 : Vec F S1x10240 .f32) (xs1 : Vec F S16x10240 .bf16) : Vec F S1x10240 .f32 := xs0

/-- Case B's pieces for scratch `arg10`, which the kernel carries between points, cover it: 40 pieces of `S16x256` tiling it (Lib/Ring.lean `Piece.tiledL`). -/
theorem scover0_B_1 (c : Dev nD) (i : grid0.Coords) (arg2 : Memref sig .tc .vmem S1x256 .f32) (harg2 : arg2.IsWhole) (arg3 : Memref sig .tc .vmem S1024x256 .f32) (harg3 : arg3.IsWhole) (arg4 : Memref sig .tc .vmem S1x256x10240 .bf16) (harg4 : arg4.IsWhole) (arg5 : Memref sig .tc .vmem S1x256x10240 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x10240 .f32) (harg9 : arg9.IsWhole) (arg10 : Memref sig .tc .vmem S16x10240 .bf16) (harg10 : arg10.IsWhole) (arg11 : Memref sig .tc .vmem S16x640 .f32) (harg11 : arg11.IsWhole) (hc0 : ¬cond0_0 i) (hc1 : ¬cond0_1 i)
    (x0 : Vec F S1x256 .f32) (x1 : Vec F S1024x256 .f32) (x2 : Vec F S1x256x10240 .bf16) (xs0 : Vec F S1x10240 .f32) (xs1 : Vec F S16x10240 .bf16) (y : S16x10240.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 xs0 xs1).2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 xs0 xs1).2.2.2.2.2.1 S16x256.size (by sl_kernel_rfl) y

/-- What case B leaves in scratch `arg10`: its pieces read back over junk. -/
def sout0_B_1 (c : Dev nD) (i : grid0.Coords) (arg2 : Memref sig .tc .vmem S1x256 .f32) (harg2 : arg2.IsWhole) (arg3 : Memref sig .tc .vmem S1024x256 .f32) (harg3 : arg3.IsWhole) (arg4 : Memref sig .tc .vmem S1x256x10240 .bf16) (harg4 : arg4.IsWhole) (arg5 : Memref sig .tc .vmem S1x256x10240 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x10240 .f32) (harg9 : arg9.IsWhole) (arg10 : Memref sig .tc .vmem S16x10240 .bf16) (harg10 : arg10.IsWhole) (arg11 : Memref sig .tc .vmem S16x640 .f32) (harg11 : arg11.IsWhole) (hc0 : ¬cond0_0 i) (hc1 : ¬cond0_1 i)
    (x0 : Vec F S1x256 .f32) (x1 : Vec F S1024x256 .f32) (x2 : Vec F S1x256x10240 .bf16) (xs0 : Vec F S1x10240 .f32) (xs1 : Vec F S16x10240 .bf16) : Vec F S16x10240 .bf16 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 hc0 hc1 x0 x1 x2 xs0 xs1).2.2.2.2.2.1)

/-- Case C's pieces for output 3 tile its block (40 stores of `S1x256x256`, checked by the kernel's evaluation: Lib/Ring.lean `Piece.tiledL`, linear in the pieces, through a loop's `@[irreducible]` trip theorem too), so they cover it. -/
theorem cover0_C_3 (c : Dev nD) (i : grid0.Coords) (arg2 : Memref sig .tc .vmem S1x256 .f32) (harg2 : arg2.IsWhole) (arg3 : Memref sig .tc .vmem S1024x256 .f32) (harg3 : arg3.IsWhole) (arg4 : Memref sig .tc .vmem S1x256x10240 .bf16) (harg4 : arg4.IsWhole) (arg5 : Memref sig .tc .vmem S1x256x10240 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x10240 .f32) (harg9 : arg9.IsWhole) (arg10 : Memref sig .tc .vmem S16x10240 .bf16) (harg10 : arg10.IsWhole) (arg11 : Memref sig .tc .vmem S16x640 .f32) (harg11 : arg11.IsWhole) (hc0 : ¬cond0_0 i) (hc1 : cond0_1 i)
    (x0 : Vec F S1x256 .f32) (x1 : Vec F S1024x256 .f32) (x2 : Vec F S1x256x10240 .bf16) (xo6 : Vec F S1x256 .f32) (xs0 : Vec F S1x10240 .f32) (xs1 : Vec F S16x10240 .bf16) (y : S1x256x10240.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 xo6 xs0 xs1).1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 xo6 xs0 xs1).1 S1x256x256.size (by sl_kernel_rfl) y

/-- What case C leaves in output 3's staging buffer: its pieces read back over junk. -/
def out0_C_3 (c : Dev nD) (i : grid0.Coords) (arg2 : Memref sig .tc .vmem S1x256 .f32) (harg2 : arg2.IsWhole) (arg3 : Memref sig .tc .vmem S1024x256 .f32) (harg3 : arg3.IsWhole) (arg4 : Memref sig .tc .vmem S1x256x10240 .bf16) (harg4 : arg4.IsWhole) (arg5 : Memref sig .tc .vmem S1x256x10240 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x10240 .f32) (harg9 : arg9.IsWhole) (arg10 : Memref sig .tc .vmem S16x10240 .bf16) (harg10 : arg10.IsWhole) (arg11 : Memref sig .tc .vmem S16x640 .f32) (harg11 : arg11.IsWhole) (hc0 : ¬cond0_0 i) (hc1 : cond0_1 i)
    (x0 : Vec F S1x256 .f32) (x1 : Vec F S1024x256 .f32) (x2 : Vec F S1x256x10240 .bf16) (xo6 : Vec F S1x256 .f32) (xs0 : Vec F S1x10240 .f32) (xs1 : Vec F S16x10240 .bf16) : Vec F S1x256x10240 .fp8e4m3 :=
  VO0_3.read (Elt F) (VO0_3.writes (Elt F) VO0_3.junk (kernelRun0_C c i arg2 harg2 arg3 harg3 arg4 harg4 arg5 harg5 arg6 harg6 arg7 harg7 arg8 harg8 arg9 harg9 arg10 harg10 arg11 harg11 hc0 hc1 x0 x1 x2 xo6 xs0 xs1).1)

/-- Case C's pieces for output 4 tile its block (1 store of `S1x256`, checked by the kernel's evaluation: Lib/Ring.lean `Piece.tiledL`, linear in the pieces, through a loop's `@[irreducible]` trip theorem too), so they cover it. -/
theorem cover0_C_4 (c : Dev nD) (i : grid0.Coords) (arg2 : Memref sig .tc .vmem S1x256 .f32) (harg2 : arg2.IsWhole) (arg3 : Memref sig .tc .vmem S1024x256 .f32) (harg3 : arg3.IsWhole) (arg4 : Memref sig .tc .vmem S1x256x10240 .bf16) (harg4 : arg4.IsWhole) (arg5 : Memref sig .tc .vmem S1x256x10240 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x10240 .f32) (harg9 : arg9.IsWhole) (arg10 : Memref sig .tc .vmem S16x10240 .bf16) (harg10 : arg10.IsWhole) (arg11 : Memref sig .tc .vmem S16x640 .f32) (harg11 : arg11.IsWhole) (hc0 : ¬cond0_0 i) (hc1 : cond0_1 i)
    (x0 : Vec F S1x256 .f32) (x1 : Vec F S1024x256 .f32) (x2 : Vec F S1x256x10240 .bf16) (xo6 : Vec F S1x256 .f32) (xs0 : Vec F S1x10240 .f32) (xs1 : Vec F S16x10240 .bf16) (y : S1x256.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 xo6 xs0 xs1).2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 xo6 xs0 xs1).2.1 S1x256.size (by sl_kernel_rfl) y

/-- What case C leaves in output 4's staging buffer: its pieces read back over junk. -/
def out0_C_4 (c : Dev nD) (i : grid0.Coords) (arg2 : Memref sig .tc .vmem S1x256 .f32) (harg2 : arg2.IsWhole) (arg3 : Memref sig .tc .vmem S1024x256 .f32) (harg3 : arg3.IsWhole) (arg4 : Memref sig .tc .vmem S1x256x10240 .bf16) (harg4 : arg4.IsWhole) (arg5 : Memref sig .tc .vmem S1x256x10240 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x10240 .f32) (harg9 : arg9.IsWhole) (arg10 : Memref sig .tc .vmem S16x10240 .bf16) (harg10 : arg10.IsWhole) (arg11 : Memref sig .tc .vmem S16x640 .f32) (harg11 : arg11.IsWhole) (hc0 : ¬cond0_0 i) (hc1 : cond0_1 i)
    (x0 : Vec F S1x256 .f32) (x1 : Vec F S1024x256 .f32) (x2 : Vec F S1x256x10240 .bf16) (xo6 : Vec F S1x256 .f32) (xs0 : Vec F S1x10240 .f32) (xs1 : Vec F S16x10240 .bf16) : Vec F S1x256 .f32 :=
  VO0_4.read (Elt F) (VO0_4.writes (Elt F) VO0_4.junk (kernelRun0_C c i arg2 harg2 arg3 harg3 arg4 harg4 arg5 harg5 arg6 harg6 arg7 harg7 arg8 harg8 arg9 harg9 arg10 harg10 arg11 harg11 hc0 hc1 x0 x1 x2 xo6 xs0 xs1).2.1)

/-- Case C's pieces for output 5 tile its block (1 store of `S1x256`, checked by the kernel's evaluation: Lib/Ring.lean `Piece.tiledL`, linear in the pieces, through a loop's `@[irreducible]` trip theorem too), so they cover it. -/
theorem cover0_C_5 (c : Dev nD) (i : grid0.Coords) (arg2 : Memref sig .tc .vmem S1x256 .f32) (harg2 : arg2.IsWhole) (arg3 : Memref sig .tc .vmem S1024x256 .f32) (harg3 : arg3.IsWhole) (arg4 : Memref sig .tc .vmem S1x256x10240 .bf16) (harg4 : arg4.IsWhole) (arg5 : Memref sig .tc .vmem S1x256x10240 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x10240 .f32) (harg9 : arg9.IsWhole) (arg10 : Memref sig .tc .vmem S16x10240 .bf16) (harg10 : arg10.IsWhole) (arg11 : Memref sig .tc .vmem S16x640 .f32) (harg11 : arg11.IsWhole) (hc0 : ¬cond0_0 i) (hc1 : cond0_1 i)
    (x0 : Vec F S1x256 .f32) (x1 : Vec F S1024x256 .f32) (x2 : Vec F S1x256x10240 .bf16) (xo6 : Vec F S1x256 .f32) (xs0 : Vec F S1x10240 .f32) (xs1 : Vec F S16x10240 .bf16) (y : S1x256.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 xo6 xs0 xs1).2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 xo6 xs0 xs1).2.2.1 S1x256.size (by sl_kernel_rfl) y

/-- What case C leaves in output 5's staging buffer: its pieces read back over junk. -/
def out0_C_5 (c : Dev nD) (i : grid0.Coords) (arg2 : Memref sig .tc .vmem S1x256 .f32) (harg2 : arg2.IsWhole) (arg3 : Memref sig .tc .vmem S1024x256 .f32) (harg3 : arg3.IsWhole) (arg4 : Memref sig .tc .vmem S1x256x10240 .bf16) (harg4 : arg4.IsWhole) (arg5 : Memref sig .tc .vmem S1x256x10240 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x10240 .f32) (harg9 : arg9.IsWhole) (arg10 : Memref sig .tc .vmem S16x10240 .bf16) (harg10 : arg10.IsWhole) (arg11 : Memref sig .tc .vmem S16x640 .f32) (harg11 : arg11.IsWhole) (hc0 : ¬cond0_0 i) (hc1 : cond0_1 i)
    (x0 : Vec F S1x256 .f32) (x1 : Vec F S1024x256 .f32) (x2 : Vec F S1x256x10240 .bf16) (xo6 : Vec F S1x256 .f32) (xs0 : Vec F S1x10240 .f32) (xs1 : Vec F S16x10240 .bf16) : Vec F S1x256 .f32 :=
  VO0_5.read (Elt F) (VO0_5.writes (Elt F) VO0_5.junk (kernelRun0_C c i arg2 harg2 arg3 harg3 arg4 harg4 arg5 harg5 arg6 harg6 arg7 harg7 arg8 harg8 arg9 harg9 arg10 harg10 arg11 harg11 hc0 hc1 x0 x1 x2 xo6 xs0 xs1).2.2.1)

/-- Case C stores nothing into output 6: its staging buffer holds what the point before left. -/
def out0_C_6 (c : Dev nD) (i : grid0.Coords) (arg2 : Memref sig .tc .vmem S1x256 .f32) (harg2 : arg2.IsWhole) (arg3 : Memref sig .tc .vmem S1024x256 .f32) (harg3 : arg3.IsWhole) (arg4 : Memref sig .tc .vmem S1x256x10240 .bf16) (harg4 : arg4.IsWhole) (arg5 : Memref sig .tc .vmem S1x256x10240 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x10240 .f32) (harg9 : arg9.IsWhole) (arg10 : Memref sig .tc .vmem S16x10240 .bf16) (harg10 : arg10.IsWhole) (arg11 : Memref sig .tc .vmem S16x640 .f32) (harg11 : arg11.IsWhole) (hc0 : ¬cond0_0 i) (hc1 : cond0_1 i)
    (x0 : Vec F S1x256 .f32) (x1 : Vec F S1024x256 .f32) (x2 : Vec F S1x256x10240 .bf16) (xo6 : Vec F S1x256 .f32) (xs0 : Vec F S1x10240 .f32) (xs1 : Vec F S16x10240 .bf16) : Vec F S1x256 .f32 := xo6

/-- Case C stores nothing into scratch `arg9`: it holds what the point before left. -/
def sout0_C_0 (c : Dev nD) (i : grid0.Coords) (arg2 : Memref sig .tc .vmem S1x256 .f32) (harg2 : arg2.IsWhole) (arg3 : Memref sig .tc .vmem S1024x256 .f32) (harg3 : arg3.IsWhole) (arg4 : Memref sig .tc .vmem S1x256x10240 .bf16) (harg4 : arg4.IsWhole) (arg5 : Memref sig .tc .vmem S1x256x10240 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x10240 .f32) (harg9 : arg9.IsWhole) (arg10 : Memref sig .tc .vmem S16x10240 .bf16) (harg10 : arg10.IsWhole) (arg11 : Memref sig .tc .vmem S16x640 .f32) (harg11 : arg11.IsWhole) (hc0 : ¬cond0_0 i) (hc1 : cond0_1 i)
    (x0 : Vec F S1x256 .f32) (x1 : Vec F S1024x256 .f32) (x2 : Vec F S1x256x10240 .bf16) (xo6 : Vec F S1x256 .f32) (xs0 : Vec F S1x10240 .f32) (xs1 : Vec F S16x10240 .bf16) : Vec F S1x10240 .f32 := xs0

/-- Case C's pieces for scratch `arg10`, which the kernel carries between points, cover it: 40 pieces of `S16x256` tiling it (Lib/Ring.lean `Piece.tiledL`). -/
theorem scover0_C_1 (c : Dev nD) (i : grid0.Coords) (arg2 : Memref sig .tc .vmem S1x256 .f32) (harg2 : arg2.IsWhole) (arg3 : Memref sig .tc .vmem S1024x256 .f32) (harg3 : arg3.IsWhole) (arg4 : Memref sig .tc .vmem S1x256x10240 .bf16) (harg4 : arg4.IsWhole) (arg5 : Memref sig .tc .vmem S1x256x10240 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x10240 .f32) (harg9 : arg9.IsWhole) (arg10 : Memref sig .tc .vmem S16x10240 .bf16) (harg10 : arg10.IsWhole) (arg11 : Memref sig .tc .vmem S16x640 .f32) (harg11 : arg11.IsWhole) (hc0 : ¬cond0_0 i) (hc1 : cond0_1 i)
    (x0 : Vec F S1x256 .f32) (x1 : Vec F S1024x256 .f32) (x2 : Vec F S1x256x10240 .bf16) (xo6 : Vec F S1x256 .f32) (xs0 : Vec F S1x10240 .f32) (xs1 : Vec F S16x10240 .bf16) (y : S16x10240.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 xo6 xs0 xs1).2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 xo6 xs0 xs1).2.2.2.2.2.1 S16x256.size (by sl_kernel_rfl) y

/-- What case C leaves in scratch `arg10`: its pieces read back over junk. -/
def sout0_C_1 (c : Dev nD) (i : grid0.Coords) (arg2 : Memref sig .tc .vmem S1x256 .f32) (harg2 : arg2.IsWhole) (arg3 : Memref sig .tc .vmem S1024x256 .f32) (harg3 : arg3.IsWhole) (arg4 : Memref sig .tc .vmem S1x256x10240 .bf16) (harg4 : arg4.IsWhole) (arg5 : Memref sig .tc .vmem S1x256x10240 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x10240 .f32) (harg9 : arg9.IsWhole) (arg10 : Memref sig .tc .vmem S16x10240 .bf16) (harg10 : arg10.IsWhole) (arg11 : Memref sig .tc .vmem S16x640 .f32) (harg11 : arg11.IsWhole) (hc0 : ¬cond0_0 i) (hc1 : cond0_1 i)
    (x0 : Vec F S1x256 .f32) (x1 : Vec F S1024x256 .f32) (x2 : Vec F S1x256x10240 .bf16) (xo6 : Vec F S1x256 .f32) (xs0 : Vec F S1x10240 .f32) (xs1 : Vec F S16x10240 .bf16) : Vec F S16x10240 .bf16 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 hc0 hc1 x0 x1 x2 xo6 xs0 xs1).2.2.2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S1x256x10240 .fp8e4m3 × Vec F S1x256 .f32 × Vec F S1x256 .f32 × Vec F S1x256 .f32 × Vec F S1x10240 .f32 × Vec F S16x10240 .bf16
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩))
  | n + 1, hn =>
    if h0 : (n + 1) % 40 = 0 then
      if h1 : (n + 1) % 40 = 39 then
        False.elim (by have hN : n + 1 < 40 := lt_of_lt_of_eq hn (show cfg0.N = 40 from N_0); omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩))
    else
      if h1 : (n + 1) % 40 = 39 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.2.2.1 (outsAt0 c n (Nat.lt_of_succ_lt hn)).2.2.2.2.2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.2.2.1 (outsAt0 c n (Nat.lt_of_succ_lt hn)).2.2.2.2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.2.2.1 (outsAt0 c n (Nat.lt_of_succ_lt hn)).2.2.2.2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.2.2.1 (outsAt0 c n (Nat.lt_of_succ_lt hn)).2.2.2.2.2 (outsAt0 c n (Nat.lt_of_succ_lt hn)).2.2.2.1, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.2.2.1 (outsAt0 c n (Nat.lt_of_succ_lt hn)).2.2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.2.2.1 (outsAt0 c n (Nat.lt_of_succ_lt hn)).2.2.2.2.2)

/-- `outsAt0` at a point of case A: that case's contents. -/
theorem outsAt0_A (c : Dev nD) (t : Fin cfg0.N) (h0 : t.val % 40 = 0) (h1 : ¬t.val % 40 = 39) :
    outsAt0 m c t.val t.isLt = (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t), out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 40 = 0) (h1 : ¬t.val % 40 = 39) :
    outsAt0 m c t.val t.isLt = (out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (outsAt0 m c (t.val - 1) (Nat.lt_of_le_of_lt (Nat.sub_le _ _) t.isLt)).2.2.2.1, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 40 = 0) (h1 : t.val % 40 = 39) :
    outsAt0 m c t.val t.isLt = (out0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.1) ∗ owns (c : Thread nD τ) scM0_1 fullShare ((outsAt0 m c n hn).2.2.2.2.2) ∗ (∃ d, owns (c : Thread nD τ) scM0_2 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.1) ∗ owns (c : Thread nD τ) scM0_1 fullShare ((outsAt0 m c n hn).2.2.2.2.2) ∗ (∃ d, owns (c : Thread nD τ) scM0_2 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.1) ∗ owns (c : Thread nD τ) scM0_1 fullShare ((outsAt0 m c (n - 1) (by omega)).2.2.2.2.2) ∗ (∃ d, owns (c : Thread nD τ) scM0_2 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2.1
    | ⟨5, _⟩ => (outsAt0 m c t.val t.isLt).2.2.1
    | ⟨6, _⟩ => (outsAt0 m c t.val t.isLt).2.2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2.1 := by dsimp only [dats]
theorem after0_5 (c : Dev nD) (t : Fin cfg0.N) : (dats m 0 c).after 5 t = (outsAt0 m c t.val t.isLt).2.2.1 := by dsimp only [dats]
theorem after0_6 (c : Dev nD) (t : Fin cfg0.N) : (dats m 0 c).after 6 t = (outsAt0 m c t.val t.isLt).2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- Output 6's contents CARRY through the points that leave it idle: at such a point, its buffer not fresh, the proof data's
    `after` is the point before's (the case there stores nothing into the window and its term says so; a case that stores
    into it is not idle there by `liveAt0_6_κ`) — the hypothesis of Lib/Pipeline/TableIdle.lean `Dat.before_out_traj`. -/
theorem hcarry0_6 (c : Dev nD) : ∀ (t : Fin cfg0.N) (_ : t.val ≠ 0), cfg0.idle 6 (grid0.coords t) = true → cfg0.fresh 6 t.val = false →
    (dats m 0 c).after 6 t = (dats m 0 c).after 6 ⟨t.val - 1, by omega⟩ := by
  intro t _ hi _
  have hN : t.val < 40 := lt_of_lt_of_eq t.isLt (show cfg0.N = 40 from N_0)
  rw [after0_6, after0_6]
  by_cases h0 : t.val % 40 = 0
  · by_cases h1 : t.val % 40 = 39
    · exfalso; omega
    · rw [liveAt0_6_A t ((hcond0_0 t).mpr h0) (fun h => h1 ((hcond0_1 t).mp h))] at hi
      exact absurd hi Bool.false_ne_true
  · by_cases h1 : t.val % 40 = 39
    · rw [outsAt0_C m c t h0 h1]
      dsimp only
      unfold out0_C_6
      rfl
    · rw [outsAt0_B m c t h0 h1]
      dsimp only
      unfold out0_B_6
      rfl
/-- At a point of case C output 6's current staging buffer holds what the point before left: the buffer is not fresh
    there (`notFresh0_6_C`: stored into since the region's entry or the last write-back, carried through the points that
    leave it idle by `hcarry0_6`; Lib/Pipeline/TableIdle.lean `Dat.before_out_traj`). -/
theorem before0_6_C (c : Dev nD) (t : Fin cfg0.N) (h0 : ¬t.val % 40 = 0) (h1 : t.val % 40 = 39) (d) :
    (dats m 0 c).before 6 t d = (outsAt0 m c (t.val - 1) (Nat.lt_of_le_of_lt (Nat.sub_le _ _) t.isLt)).2.2.2.1 := by
  rw [Dat.before_out_traj _ 6 rfl (fun _ _ => rfl) (hcarry0_6 m c) t.val t rfl d,
    if_neg (by rw [notFresh0_6_C t (fun h => h0 ((hcond0_0 t).mp h)) ((hcond0_1 t).mpr h1)]; exact Bool.false_ne_true)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 40 := lt_of_lt_of_eq t.isLt (show cfg0.N = 40 from N_0)
  by_cases h0 : t.val % 40 = 0
  · by_cases h1 : t.val % 40 = 39
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [Dat.leavesExact_idle (dats m 0 c) 4 t (idleAt0_4_A t ((hcond0_0 t).mpr h0) (fun h => h1 ((hcond0_1 t).mp h))) (noFlush0_4_A t ((hcond0_0 t).mpr h0) (fun h => h1 ((hcond0_1 t).mp h)))]
      rw [Dat.leavesExact_idle (dats m 0 c) 5 t (idleAt0_5_A t ((hcond0_0 t).mpr h0) (fun h => h1 ((hcond0_1 t).mp h))) (noFlush0_5_A t ((hcond0_0 t).mpr h0) (fun h => h1 ((hcond0_1 t).mp h)))]
      rw [show (dats m 0 c).leavesExact 6 t = owns (c : Thread nD τ) (ms0_6 t) fullShare ((dats m 0 c).after 6 t) from by
      unfold Dat.leavesExact; rw [liveAt0_6_A t ((hcond0_0 t).mpr h0) (fun h => h1 ((hcond0_1 t).mp h))], after0_6]
      by_cases hz : t.val = 0
      · rw [PhiS_castSucc m c t, PhiS_zero m c _ _ hz, PhiA0_eq]
        rw [outsAt0_A m c t h0 h1]
        unfold out0_A_3 out0_A_6 sout0_A_0 sout0_A_1; (try dsimp only)
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t)).2.2.2.2.2.2.2 _ _ Set.univ _)
        isplitl [H0]; · iexact H0
        isplitl [H1]; · iexact H1
        isplitl [H2]; · iexact H2
        isplitl [H3]; · iexists _; iexact H3
        isplitl [H4]; · iexact H4
        isplitl [H5]; · iexact H5
        isplitl [H6]; · iexists _; iexact H6
        isplitl [HS0]; · iexact HS0
        isplitl [HS1]; · iexact HS1
        isplitl [HS2]; · iexact HS2
        iintro ⟨H0, H1, H2, ⟨%e3, H3⟩, H4, H5, ⟨%e6, H6⟩, ⟨%es0, HS0⟩, ⟨%es1, HS1⟩, HS2⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _)
            iexact HS2
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_A_3 c _ _ _ _ _ _ _ _ _ _ _ _ _ _ _ _ _ _ _ _ _ _ _ _ _ _)
        isplitl [H4]; · iexists _; iexact H4
        isplitl [H5]; · iexists _; iexact H5
        unfold owns; iexists _; isplitr
        swap; · iexact H6
        ipureintro; exact View.read_writes_of_cover _ _ _ _ _ (cover0_A_6 c _ _ _ _ _ _ _ _ _ _ _ _ _ _ _ _ _ _ _ _ _ _ _ _ _ _)
      · exfalso; have hN : t.val < 40 := lt_of_lt_of_eq t.isLt (show cfg0.N = 40 from N_0); omega
  · by_cases h1 : t.val % 40 = 39
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4_C t (fun h => h0 ((hcond0_0 t).mp h)) ((hcond0_1 t).mpr h1)], after0_4]
      rw [show (dats m 0 c).leavesExact 5 t = owns (c : Thread nD τ) (ms0_5 t) fullShare ((dats m 0 c).after 5 t) from by
      unfold Dat.leavesExact; rw [liveAt0_5_C t (fun h => h0 ((hcond0_0 t).mp h)) ((hcond0_1 t).mpr h1)], after0_5]
      rw [show (dats m 0 c).leavesExact 6 t = owns (c : Thread nD τ) (ms0_6 t) fullShare ((dats m 0 c).after 6 t) from by
      unfold Dat.leavesExact; rw [idleAt0_6_C t (fun h => h0 ((hcond0_0 t).mp h)) ((hcond0_1 t).mpr h1), flushAt0_6_C t (fun h => h0 ((hcond0_0 t).mp h)) ((hcond0_1 t).mpr h1)], after0_6]
      by_cases hz : t.val = 0
      · exfalso; have hN : t.val < 40 := lt_of_lt_of_eq t.isLt (show cfg0.N = 40 from N_0); omega
      · rw [PhiS_castSucc m c t, PhiS_pos m c _ _ hz]
        rw [outsAt0_C m c t h0 h1]
        simp only [before0_6_C m c t h0 h1]
        unfold out0_C_3 out0_C_4 out0_C_5 out0_C_6 sout0_C_0 sout0_C_1; (try dsimp only)
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_C c (grid0.coords t) _ _ _ _ _ _ _ _ _ _ _ _ _ _ _ _ _ _ _ _ (fun h => h0 ((hcond0_0 t).mp h)) ((hcond0_1 t).mpr h1) (iblk m c 0 t) (iblk m c 1 t) (iblk m c 2 t) _ _ _).2.2.2.2.2.2.2 Set.univ _)
        isplitl [H0]; · iexact H0
        isplitl [H1]; · iexact H1
        isplitl [H2]; · iexact H2
        isplitl [H3]; · iexists _; iexact H3
        isplitl [H4]; · iexists _; iexact H4
        isplitl [H5]; · iexists _; iexact H5
        isplitl [H6]; · iexact H6
        isplitl [HS0]; · iexact HS0
        isplitl [HS1]; · iexact HS1
        isplitl [HS2]; · iexact HS2
        iintro ⟨H0, H1, H2, ⟨%e3, H3⟩, ⟨%e4, H4⟩, ⟨%e5, H5⟩, H6, HS0, ⟨%es1, HS1⟩, ⟨%fT2, HS2⟩⟩
        isplitl [HS0 HS1 HS2 Hg]
        · isplitl [HS0 HS1 HS2]
          · isplitl [HS0]
            · iexact HS0
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _)
            iexists _; unfold owns; iexists _; isplitr
            swap; · iexact HS2
            ipureintro; rfl
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_C_3 c _ _ _ _ _ _ _ _ _ _ _ _ _ _ _ _ _ _ _ _ _ _ _ _ _ _ _ _ _)
        isplitl [H4]
        · unfold owns; iexists _; isplitr
          swap; · iexact H4
          ipureintro; exact View.read_writes_of_cover _ _ _ _ _ (cover0_C_4 c _ _ _ _ _ _ _ _ _ _ _ _ _ _ _ _ _ _ _ _ _ _ _ _ _ _ _ _ _)
        isplitl [H5]
        · unfold owns; iexists _; isplitr
          swap; · iexact H5
          ipureintro; exact View.read_writes_of_cover _ _ _ _ _ (cover0_C_5 c _ _ _ _ _ _ _ _ _ _ _ _ _ _ _ _ _ _ _ _ _ _ _ _ _ _ _ _ _)
        iexact H6
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [Dat.leavesExact_idle (dats m 0 c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [Dat.leavesExact_idle (dats m 0 c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      rw [Dat.leavesExact_idle (dats m 0 c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      by_cases hz : t.val = 0
      · exfalso; have hN : t.val < 40 := lt_of_lt_of_eq t.isLt (show cfg0.N = 40 from N_0); omega
      · rw [PhiS_castSucc m c t, PhiS_pos m c _ _ hz]
        rw [outsAt0_B m c t h0 h1]
        unfold out0_B_3 sout0_B_0 sout0_B_1; (try dsimp only)
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_B c (grid0.coords t) _ _ _ _ _ _ _ _ _ _ _ _ _ _ _ _ _ _ _ _ (fun h => h0 ((hcond0_0 t).mp h)) (fun h => h1 ((hcond0_1 t).mp h)) (iblk m c 0 t) (iblk m c 1 t) (iblk m c 2 t) _ _).2.2.2.2.2.2.2 _ _ _ Set.univ _)
        isplitl [H0]; · iexact H0
        isplitl [H1]; · iexact H1
        isplitl [H2]; · iexact H2
        isplitl [H3]; · iexists _; iexact H3
        isplitl [H4]; · iexact H4
        isplitl [H5]; · iexact H5
        isplitl [H6]; · iexact H6
        isplitl [HS0]; · iexact HS0
        isplitl [HS1]; · iexact HS1
        isplitl [HS2]; · iexact HS2
        iintro ⟨H0, H1, H2, ⟨%e3, H3⟩, H4, H5, H6, HS0, ⟨%es1, HS1⟩, HS2⟩
        isplitl [HS0 HS1 HS2 Hg]
        · isplitl [HS0 HS1 HS2]
          · isplitl [HS0]
            · iexact HS0
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _)
            iexact HS2
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_B_3 c _ _ _ _ _ _ _ _ _ _ _ _ _ _ _ _ _ _ _ _ _ _ _ _ _ _ _ _)
        isplitl [H4]; · iexists _; iexact H4
        isplitl [H5]; · iexists _; iexact H5
        iexists _; iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 40 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: `Cert.quiescent_KernelIdeal`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Gen

end
-- ==== Proof.KernelFrame.lean ====
/- The frame of the kernel at the machine's bit patterns. The kernel and its idealization are the same program text, so
   the run proved of the idealization for any float interpretation is, at bit patterns, the run of the kernel. -/
module

public import proofs.«01_k».proof.Proof.KFrame
public import proofs.«01_k».proof.Defs
public import proofs.«01_k».proof.Proof.Gen.Kernel

@[expose] public section

set_option maxRecDepth 16384

noncomputable section

namespace Cert.Kernel.Transport

open Idealize.ShloMosaic Idealize.ShloMosaic.TcCoe Idealize.SL.Sem

/-- The kernel's run at bit patterns: it terminates without fault, leaves its argument arrays unchanged and every
    semaphore at zero. -/
theorem frame (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0) :=
  by
  have h := Cert.KernelIdeal.Gen.frame (F := Bits) m g
  refine cast ?_ h
  sl_kernel_rfl

end Cert.Kernel.Transport

end
-- ==== Proof.KValue.lean ====
/-
   The run of the kernel read at the result arrays.
-/
module

public import proofs.«01_k».proof.Proof.KFrame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 3's array: the run's contents for that window after the body (`Gen.outsAt0`: its component 0), read through the window's block. -/
theorem flushed3 (c : Dev nD) (t : Fin cfg0.N) :
    (dats m 0 c).flushed 3 t = (cfg0.win 3).cut (grid0.coords t) ((outsAt0 m c t.val t.isLt).1) := by
  show (cfg0.win 3).cut (grid0.coords t) ((dats m 0 c).after 3 t) = _
  rw [after0_3]

/-- The index map sends distinct grid points to distinct block indices (decided over the 40 points). -/
theorem idx_inj3 : ∀ t t' : Fin cfg0.N, win0_3.index t = win0_3.index t' → t = t' :=
  (by decide +kernel : ∀ t t' : Fin grid0.N, win0_3.index t = win0_3.index t' → t = t')

/-- So two flushing points' blocks share no array index (Lib/Pipeline/Cells.lean `Window.disjoint_blk`). -/
theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj3 t t' h)

/-- BLOCK `t` OF THE FINAL ARRAY, read back through the window, is what point `t` wrote back (`flushed3`), for every
    point that writes back: no other point's block meets it. -/
theorem blocks3 (c : Dev nD) (t : Fin cfg0.N) (hf : (cfg0.win 3).flush t = true) :
    ((cfg0.win 3).blk t).view.read (Elt F) ((dats m 0 c).arrAt 3 cfg0.N) = (dats m 0 c).flushed 3 t :=
  (dats m 0 c).read_blk_arrAt_eq_flushed 3 disjoint3 cfg0.N t t.isLt hf

/-- An index that no flushing point's block covers keeps output window 3's array contents at region entry. -/
theorem entry3 (c : Dev nD) (i : S10x1024x10240.Idx) (h : ∀ t : Fin cfg0.N, (cfg0.win 3).flush t = true → i ∉ ((cfg0.win 3).blk t).view.set) :
    (dats m 0 c).arrAt 3 cfg0.N i = V m c (Pipeline.arrRef spec0 3) i := by
  rw [(dats m 0 c).arrAt_apply_of_forall_not_mem 3 cfg0.N i (fun t _ hf => h t hf), A_eq]

/-- WHAT POINT `t` WRITES BACK to output window 4's array: the run's contents for that window after the body (`Gen.outsAt0`: its component 1), read through the window's block. -/
theorem flushed4 (c : Dev nD) (t : Fin cfg0.N) :
    (dats m 0 c).flushed 4 t = (cfg0.win 4).cut (grid0.coords t) ((outsAt0 m c t.val t.isLt).2.1) := by
  show (cfg0.win 4).cut (grid0.coords t) ((dats m 0 c).after 4 t) = _
  rw [after0_4]

-- no `blocks4`: window 4's index map revisits a block index, or its points could not be enumerated here;
-- the final array is still the frame's `arrAt`, to read with Lib/Pipeline/Value.lean's lemmas by hand

/-- An index that no flushing point's block covers keeps output window 4's array contents at region entry. -/
theorem entry4 (c : Dev nD) (i : S1x256.Idx) (h : ∀ t : Fin cfg0.N, (cfg0.win 4).flush t = true → i ∉ ((cfg0.win 4).blk t).view.set) :
    (dats m 0 c).arrAt 4 cfg0.N i = V m c (Pipeline.arrRef spec0 4) i := by
  rw [(dats m 0 c).arrAt_apply_of_forall_not_mem 4 cfg0.N i (fun t _ hf => h t hf), A_eq]

/-- WHAT POINT `t` WRITES BACK to output window 5's array: the run's contents for that window after the body (`Gen.outsAt0`: its component 2), read through the window's block. -/
theorem flushed5 (c : Dev nD) (t : Fin cfg0.N) :
    (dats m 0 c).flushed 5 t = (cfg0.win 5).cut (grid0.coords t) ((outsAt0 m c t.val t.isLt).2.2.1) := by
  show (cfg0.win 5).cut (grid0.coords t) ((dats m 0 c).after 5 t) = _
  rw [after0_5]

-- no `blocks5`: window 5's index map revisits a block index, or its points could not be enumerated here;
-- the final array is still the frame's `arrAt`, to read with Lib/Pipeline/Value.lean's lemmas by hand

/-- An index that no flushing point's block covers keeps output window 5's array contents at region entry. -/
theorem entry5 (c : Dev nD) (i : S1x256.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- WHAT POINT `t` WRITES BACK to output window 6's array: the run's contents for that window after the body (`Gen.outsAt0`: its component 3), read through the window's block. -/
theorem flushed6 (c : Dev nD) (t : Fin cfg0.N) :
    (dats m 0 c).flushed 6 t = (cfg0.win 6).cut (grid0.coords t) ((outsAt0 m c t.val t.isLt).2.2.2.1) := by
  show (cfg0.win 6).cut (grid0.coords t) ((dats m 0 c).after 6 t) = _
  rw [after0_6]

-- no `blocks6`: window 6's index map revisits a block index, or its points could not be enumerated here;
-- the final array is still the frame's `arrAt`, to read with Lib/Pipeline/Value.lean's lemmas by hand

/-- An index that no flushing point's block covers keeps output window 6's array contents at region entry. -/
theorem entry6 (c : Dev nD) (i : S1x256.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v1_0) = (dats m 0 c).arrAt 3 cfg0.N :=
  (h c).1 3

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v1_1) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v1_2) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v1_3) = (dats m 0 c).arrAt 6 cfg0.N :=
  (h c).1 6

/-- After the frame run, argument `main_arg0` is as launched: input window 2 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 2).trans (((dats m 0 c).arrAt_in 2 rfl _).trans ((A_eq m c 2).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v1_0) = (dats m 0 c).arrAt 3 cfg0.N
      ∧ r.2.mem ((c : Thread nD τ).loc main_v1_1) = (dats m 0 c).arrAt 4 cfg0.N
      ∧ r.2.mem ((c : Thread nD τ).loc main_v1_2) = (dats m 0 c).arrAt 5 cfg0.N
      ∧ r.2.mem ((c : Thread nD τ).loc main_v1_3) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post3 m r h c,
      post4 m r h c,
      post5 m r h c,
      post6 m r h c,
      kept_main_arg0 m r h c,
      kept_main_arg1 m r h c,
      kept_main_arg2 m r h c⟩)
    (run_main m ρ)

end Cert.KernelIdeal.Value

end
-- ==== Proof.KCodes.lean ====
/- What every grid point stores into its block of the codes: each element of the block times the reciprocal of its column's
   scale, cut to the range of the eight-bit format. The body does this in 40 strips of 256 columns; one lemma covers a strip. -/
module

public import proofs.«01_k».proof.Proof.KValue
public import Idealize.ShloMosaic.Lib.Pointwise
public import Idealize.ShloMosaic.Lib.WholeRead
public import Idealize.ShloMosaic.Lib.Pipeline.Value

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)

/-- One code: the value times the reciprocal of the scale, cut to `[-448, 448]`. -/
def code1 (a : Ideal .bf16) (b : Ideal .f32) : Ideal .fp8e4m3 :=
  FloatOps.truncf .fp8e4m3 bitsLt_fp8e4m3_f32 (FloatOps.minimumf (Scalar.ofBits .f32 0x43E00000#32)
    (FloatOps.maximumf (Scalar.ofBits .f32 0xC3E00000#32) (FloatOps.mulf (FloatOps.extf .f32 bitsLt_bf16_f32 a) b)))

/-- The block of codes of a block `x` of the input, given the reciprocal of each column's scale. -/
def codeBlk (x : Vec Ideal S1x256x10240 .bf16) (inv : Vec Ideal S1x10240 .f32) : Vec Ideal S1x256x10240 .fp8e4m3 :=
  fun y => code1 (x y) (inv (ix2 0 ⟨(y 2).val, (y 2).isLt⟩))

/-- A strip's payload at an index. -/
theorem pay49_apply (v : Vec Ideal S1x256x256 .bf16) (iv : Vec Ideal S1x256 .f32) (y : S1x256x256.Idx) :
    k0_pay49 v iv y = code1 (v y) (iv (ix2 0 ⟨(y 2).val, (y 2).isLt⟩)) := by
  idx_vars y
  obtain rfl : y0 = 0 := Subsingleton.elim _ _
  pointwise [k0_pay49, k0_pay47, code1]

/-- A strip of codes: the payload of the strip's columns of the block and of the reciprocals is the block of codes there. -/
theorem strip (x : Vec Ideal S1x256x10240 .bf16) (inv : Vec Ideal S1x10240 .f32) (o : ℕ)
    (h : ∀ a : Fin S1x256x10240.rank, (![0, 0, o] : Fin 3 → ℕ) a + S1x256x256.size a ≤ S1x256x10240.size a)
    (h' : ∀ a : Fin S1x10240.rank, (![0, o] : Fin 2 → ℕ) a + S1x256.size a ≤ S1x10240.size a)
    (v : Vec Ideal S1x256x256 .bf16) (iv : Vec Ideal S1x256 .f32)
    (hv : ∀ j, v j = x ((Rect.unit (s := S1x256x10240) ![0, 0, o] S1x256x256.size h).toLoadRect.idx j))
    (hiv : ∀ j, iv j = inv ((Rect.unit (s := S1x10240) ![0, o] S1x256.size h').toLoadRect.idx j)) (j : S1x256x256.Idx) :
    codeBlk x inv ((Rect.unit (s := S1x256x10240) ![0, 0, o] S1x256x256.size h).emb j) = k0_pay49 v iv j := by
  rw [pay49_apply, hv, hiv]
  unfold codeBlk
  congr 2
  refine funext fun a => Fin.ext ?_
  match a with
  | ⟨0, _⟩ => rfl
  | ⟨1, _⟩ => rfl

/-- A strip of codes whose operands are loaded from whole buffers holding the block and the reciprocals. -/
theorem stripB (arg4 : Memref sig .tc .vmem S1x256x10240 .bf16) (harg4 : arg4.IsWhole) (arg9 : Memref sig .tc .vmem S1x10240 .f32) (harg9 : arg9.IsWhole)
    (x : Vec Ideal S1x256x10240 .bf16) (inv : Vec Ideal S1x10240 .f32) (o : ℕ)
    (h : ∀ a : Fin S1x256x10240.rank, (![0, 0, o] : Fin 3 → ℕ) a + S1x256x256.size a ≤ S1x256x10240.size a)
    (h' : ∀ a : Fin S1x10240.rank, (![0, o] : Fin 2 → ℕ) a + S1x256.size a ≤ S1x10240.size a) (j : S1x256x256.Idx) :
    codeBlk x inv ((Rect.unit (s := S1x256x10240) ![0, 0, o] S1x256x256.size h).emb j)
      = k0_pay49 (View.readAt (Elt Ideal) arg4.view (Rect.unit (s := S1x256x10240) ![0, 0, o] S1x256x256.size h).toLoadRect (harg4.unread x))
          (View.readAt (Elt Ideal) arg9.view (Rect.unit (s := S1x10240) ![0, o] S1x256.size h').toLoadRect (harg9.unread inv)) j :=
  strip x inv o h h' _ _ (fun j => harg4.readAt_unread x (Rect.unit (s := S1x256x10240) ![0, 0, o] S1x256x256.size h).toLoadRect j) (fun j => harg9.readAt_unread inv (Rect.unit (s := S1x10240) ![0, o] S1x256.size h').toLoadRect j) j

/-- Every store into the codes at a middle point is a strip of the block of codes. -/
theorem piecesB (c : Dev nD) (i : grid0.Coords) (arg2 : Memref sig .tc .vmem S1x256 .f32) (harg2 : arg2.IsWhole) (arg3 : Memref sig .tc .vmem S1024x256 .f32) (harg3 : arg3.IsWhole) (arg4 : Memref sig .tc .vmem S1x256x10240 .bf16) (harg4 : arg4.IsWhole) (arg5 : Memref sig .tc .vmem S1x256x10240 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x10240 .f32) (harg9 : arg9.IsWhole) (arg10 : Memref sig .tc .vmem S16x10240 .bf16) (harg10 : arg10.IsWhole) (arg11 : Memref sig .tc .vmem S16x640 .f32) (harg11 : arg11.IsWhole) (hc0 : ¬cond0_0 i) (hc1 : ¬cond0_1 i) (x0 : Vec Ideal S1x256 .f32) (x1 : Vec Ideal S1024x256 .f32) (x2 : Vec Ideal S1x256x10240 .bf16) (xs0 : Vec Ideal S1x10240 .f32) (xs1 : Vec Ideal S16x10240 .bf16) :
    ∀ p ∈ (kernelRun0_B (F := Ideal) c i arg2 harg2 arg3 harg3 arg4 harg4 arg5 harg5 arg6 harg6 arg7 harg7 arg8 harg8 arg9 harg9 arg10 harg10 arg11 harg11 hc0 hc1 x0 x1 x2 xs0 xs1).1, ∀ j : p.1.shape.Idx, p.2 j = codeBlk x2 xs0 (p.1.emb j) := by
  unfold kernelRun0_B
  dsimp only
  repeat' (refine List.forall_mem_cons.2 ⟨fun j => Eq.symm (stripB arg4 harg4 arg9 harg9 x2 xs0 _ _ _ j), ?_⟩)
  exact fun p hp => absurd hp List.not_mem_nil

/-- Every store into the codes at the last point is a strip of the block of codes. -/
theorem piecesC (c : Dev nD) (i : grid0.Coords) (arg2 : Memref sig .tc .vmem S1x256 .f32) (harg2 : arg2.IsWhole) (arg3 : Memref sig .tc .vmem S1024x256 .f32) (harg3 : arg3.IsWhole) (arg4 : Memref sig .tc .vmem S1x256x10240 .bf16) (harg4 : arg4.IsWhole) (arg5 : Memref sig .tc .vmem S1x256x10240 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x10240 .f32) (harg9 : arg9.IsWhole) (arg10 : Memref sig .tc .vmem S16x10240 .bf16) (harg10 : arg10.IsWhole) (arg11 : Memref sig .tc .vmem S16x640 .f32) (harg11 : arg11.IsWhole) (hc0 : ¬cond0_0 i) (hc1 : cond0_1 i) (x0 : Vec Ideal S1x256 .f32) (x1 : Vec Ideal S1024x256 .f32) (x2 : Vec Ideal S1x256x10240 .bf16) (xo6 : Vec Ideal S1x256 .f32) (xs0 : Vec Ideal S1x10240 .f32) (xs1 : Vec Ideal S16x10240 .bf16) :
    ∀ p ∈ (kernelRun0_C (F := Ideal) c i arg2 harg2 arg3 harg3 arg4 harg4 arg5 harg5 arg6 harg6 arg7 harg7 arg8 harg8 arg9 harg9 arg10 harg10 arg11 harg11 hc0 hc1 x0 x1 x2 xo6 xs0 xs1).1, ∀ j : p.1.shape.Idx, p.2 j = codeBlk x2 xs0 (p.1.emb j) := by
  unfold kernelRun0_C
  dsimp only
  repeat' (refine List.forall_mem_cons.2 ⟨fun j => Eq.symm (stripB arg4 harg4 arg9 harg9 x2 xs0 _ _ _ j), ?_⟩)
  exact fun p hp => absurd hp List.not_mem_nil

/-- A strip of codes whose reciprocals are loaded back from the stores `L` of the same point. -/
theorem stripA (arg4 : Memref sig .tc .vmem S1x256x10240 .bf16) (harg4 : arg4.IsWhole) (arg9 : Memref sig .tc .vmem S1x10240 .f32)
    (x : Vec Ideal S1x256x10240 .bf16) (L : List (View.Piece (Elt Ideal) S1x10240 .f32)) (o : ℕ)
    (h : ∀ a : Fin S1x256x10240.rank, (![0, 0, o] : Fin 3 → ℕ) a + S1x256x256.size a ≤ S1x256x10240.size a)
    (h' : ∀ a : Fin S1x10240.rank, (![0, o] : Fin 2 → ℕ) a + S1x256.size a ≤ S1x10240.size a) (j : S1x256x256.Idx) :
    codeBlk x (View.canon L) ((Rect.unit (s := S1x256x10240) ![0, 0, o] S1x256x256.size h).emb j)
      = k0_pay49 (View.readAt (Elt Ideal) arg4.view (Rect.unit (s := S1x256x10240) ![0, 0, o] S1x256x256.size h).toLoadRect (harg4.unread x))
          (arg9.view.readCov L (Rect.unit (s := S1x10240) ![0, o] S1x256.size h').toLoadRect) j :=
  strip x (View.canon L) o h h' _ _ (fun j => harg4.readAt_unread x (Rect.unit (s := S1x256x10240) ![0, 0, o] S1x256x256.size h).toLoadRect j)
    (fun j => congrFun (View.readCov_eq_canon' arg9.view L (Rect.unit (s := S1x10240) ![0, o] S1x256.size h').toLoadRect) j) j

/-- Every store into the codes at the first point is a strip of the block of codes, at the reciprocals this point stores. -/
theorem piecesA (c : Dev nD) (i : grid0.Coords) (arg2 : Memref sig .tc .vmem S1x256 .f32) (harg2 : arg2.IsWhole) (arg3 : Memref sig .tc .vmem S1024x256 .f32) (harg3 : arg3.IsWhole) (arg4 : Memref sig .tc .vmem S1x256x10240 .bf16) (harg4 : arg4.IsWhole) (arg5 : Memref sig .tc .vmem S1x256x10240 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x10240 .f32) (harg9 : arg9.IsWhole) (arg10 : Memref sig .tc .vmem S16x10240 .bf16) (harg10 : arg10.IsWhole) (arg11 : Memref sig .tc .vmem S16x640 .f32) (harg11 : arg11.IsWhole) (hc0 : cond0_0 i) (hc1 : ¬cond0_1 i) (x0 : Vec Ideal S1x256 .f32) (x1 : Vec Ideal S1024x256 .f32) (x2 : Vec Ideal S1x256x10240 .bf16) :
    ∀ p ∈ (kernelRun0_A (F := Ideal) c i arg2 harg2 arg3 harg3 arg4 harg4 arg5 harg5 arg6 harg6 arg7 harg7 arg8 harg8 arg9 harg9 arg10 harg10 arg11 harg11 hc0 hc1 x0 x1 x2).1, ∀ j : p.1.shape.Idx,
      p.2 j = codeBlk x2 (View.canon (kernelRun0_A (F := Ideal) c i arg2 harg2 arg3 harg3 arg4 harg4 arg5 harg5 arg6 harg6 arg7 harg7 arg8 harg8 arg9 harg9 arg10 harg10 arg11 harg11 hc0 hc1 x0 x1 x2).2.2.2.2.1) (p.1.emb j) := by
  unfold kernelRun0_A
  dsimp only
  repeat' (refine List.forall_mem_cons.2 ⟨fun j => Eq.symm (stripA arg4 harg4 arg9 x2 _ _ _ _ j), ?_⟩)
  exact fun p hp => absurd hp List.not_mem_nil

end Cert.KernelIdeal.Value

end
-- ==== Proof.KInv.lean ====
/- What the first grid point stores into the scratch of reciprocals: for each of the 10240 columns the reciprocal of the
   scale its group of 40 columns belongs to. -/
module

public import proofs.«01_k».proof.Proof.KValue
public import Idealize.ShloMosaic.Lib.Pointwise
public import Idealize.ShloMosaic.Lib.WholeRead
public import Idealize.ShloMosaic.Lib.Pipeline.Value

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)

/-- The row of reciprocals: column `n` belongs to scale `n / 40`. -/
def wide (v : Vec Ideal S1x256 .f32) : Vec Ideal S1x10240 .f32 := fun y =>
  FloatOps.divf (F := Ideal) (φ := .f32) (Scalar.ofBits .f32 0x3F800000#32)
    (v (ix2 0 ⟨(y 1).val / 40, by have h : (y 1).val < 10240 := (y 1).isLt; omega⟩))

/-- Sixteen consecutive entries of the 256 begin at every multiple of sixteen. -/
theorem slices16 (n : Fin 16) : S1x256.Slices ![0, 16 * n.val] S1x16 :=
  ⟨rfl, fun a => by
    have hn := n.isLt
    match a with
    | ⟨0, _⟩ => show 0 + 1 ≤ 1; omega
    | ⟨1, _⟩ => show 16 * n.val + 16 ≤ 256; omega⟩

/-- The widened reciprocals laid out in 16 rows of 640, at an index. -/
theorem pay3_apply (v : Vec Ideal S1x256 .f32) (r : Fin 16) (k : Fin 640) :
    k0_pay3 v (ix2 r k) = FloatOps.divf (F := Ideal) (φ := .f32) (Scalar.ofBits .f32 0x3F800000#32)
      (v (ix2 0 ⟨16 * r.val + k.val / 40, by have := r.isLt; have := k.isLt; omega⟩)) := by
  have hr := r.isLt
  have hk := k.isLt
  unfold k0_pay3
  dsimp only
  refine (transpose_apply _ _ _ _ (ix2 k r) (fun b => by match b with | ⟨0, _⟩ => rfl | ⟨1, _⟩ => rfl)).trans ?_
  refine (shapeCast_apply _ _ _ (ix3 ⟨k.val / 40, by omega⟩ ⟨k.val % 40, by omega⟩ r) (by
    rw [Shape.rowMajor_val_three, Shape.rowMajor_val_two]
    show (k.val / 40 * 40 + k.val % 40) * 16 + r.val = k.val * 16 + r.val
    omega)).trans ?_
  refine (broadcastTo_apply _ _ _ (ix3 ⟨k.val / 40, by omega⟩ 0 r) (fun a => by match a with | ⟨0, _⟩ => rfl | ⟨1, _⟩ => rfl | ⟨2, _⟩ => rfl)).trans ?_
  refine (shapeCast_apply _ _ _ (ix3 ⟨k.val / 40, by omega⟩ 0 r) rfl).trans ?_
  refine (shapeCast_apply _ _ _ (ix2 ⟨k.val / 40, by omega⟩ r) (by
    rw [Shape.rowMajor_val_three, Shape.rowMajor_val_two]
    show k.val / 40 * 16 + r.val = (k.val / 40 * 1 + 0) * 16 + r.val
    omega)).trans ?_
  refine (transpose_apply _ _ _ _ (ix2 r ⟨k.val / 40, by omega⟩) (fun b => by match b with | ⟨0, _⟩ => rfl | ⟨1, _⟩ => rfl)).trans ?_
  refine (concatenate_ofFn_apply (t := S16x16) (s₁ := S1x16) (0 : Fin 2) (fun n : Fin 16 => extractStridedSlice S1x16 ![0, 16 * n.val]
      (divf (broadcast S1x256 (Scalar.ofBits (F := Ideal) .f32 0x3F800000#32)) (shapeCast S1x256 v shapeCasts_S1x256_S1x256))
      (slices16 n)) _ rfl 1 rfl (ix2 r ⟨k.val / 40, by omega⟩) r (Nat.div_one _) (ix2 0 ⟨k.val / 40, by omega⟩) (Nat.mod_one _).symm (fun b => by
        match b with | ⟨0, _⟩ => exact fun h => absurd rfl h | ⟨1, _⟩ => exact fun _ => rfl)).trans ?_
  refine (extractStridedSlice_apply _ _ _ _ (ix2 0 ⟨16 * r.val + k.val / 40, by omega⟩) (fun a => by match a with | ⟨0, _⟩ => rfl | ⟨1, _⟩ => rfl)).trans ?_
  show FloatOps.divf (F := Ideal) (φ := .f32) (Scalar.ofBits .f32 0x3F800000#32) (shapeCast S1x256 v shapeCasts_S1x256_S1x256 _) = _
  rw [shapeCast_apply _ _ _ _ rfl]

/-- Row `r` of the 16 rows of 640. -/
theorem slicesRow (r : ℕ) (hr : r < 16) : S16x640.Slices ![r, 0] S1x640 :=
  ⟨rfl, fun a => by
    match a with
    | ⟨0, _⟩ => show r + 1 ≤ 16; omega
    | ⟨1, _⟩ => show 0 + 640 ≤ 640; omega⟩

/-- The stretch of 640 columns that begins at column `640 r` lies inside the 10240. -/
theorem insideRow (o r : ℕ) (hr : r < 16) (ho : o = 640 * r) (a : Fin S1x10240.rank) :
    (![0, o] : Fin 2 → ℕ) a + S1x640.size a ≤ S1x10240.size a := by
  match a with
  | ⟨0, _⟩ => show 0 + 1 ≤ 1; omega
  | ⟨1, _⟩ => show o + 640 ≤ 10240; omega

/-- Row `r` of that layout is the stretch of the row of reciprocals that begins at column `640 r`. -/
theorem invRow (v : Vec Ideal S1x256 .f32) (o r : ℕ) (hc : S1x640.ShapeCasts S1x640) (hr : r < 16) (ho : o = 640 * r) (j : S1x640.Idx) :
    wide v ((Rect.unit (s := S1x10240) ![0, o] S1x640.size (insideRow o r hr ho)).emb j)
      = shapeCast S1x640 (extractStridedSlice S1x640 ![r, 0] (k0_pay3 v) (slicesRow r hr)) hc j := by
  have h0 : (j 0).val < 1 := (j 0).isLt
  have h1 : (j 1).val < 640 := (j 1).isLt
  rw [shapeCast_apply _ _ j j rfl, extractStridedSlice_apply _ _ _ j (ix2 ⟨r, hr⟩ ⟨(j 1).val, h1⟩) (fun a => match a with
    | ⟨0, _⟩ => by show r = r + (j 0).val; omega
    | ⟨1, _⟩ => by show (j 1).val = 0 + (j 1).val; omega), pay3_apply]
  unfold wide
  congr 3
  refine Fin.ext ?_
  show (o + 1 * (j 1).val) / 40 = 16 * r + (j 1).val / 40
  omega

/-- What the first point stores into the scratch of reciprocals. -/
theorem piecesInv (c : Dev nD) (i : grid0.Coords) (arg2 : Memref sig .tc .vmem S1x256 .f32) (harg2 : arg2.IsWhole) (arg3 : Memref sig .tc .vmem S1024x256 .f32) (harg3 : arg3.IsWhole) (arg4 : Memref sig .tc .vmem S1x256x10240 .bf16) (harg4 : arg4.IsWhole) (arg5 : Memref sig .tc .vmem S1x256x10240 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x10240 .f32) (harg9 : arg9.IsWhole) (arg10 : Memref sig .tc .vmem S16x10240 .bf16) (harg10 : arg10.IsWhole) (arg11 : Memref sig .tc .vmem S16x640 .f32) (harg11 : arg11.IsWhole) (hc0 : cond0_0 i) (hc1 : ¬cond0_1 i) (x0 : Vec Ideal S1x256 .f32) (x1 : Vec Ideal S1024x256 .f32) (x2 : Vec Ideal S1x256x10240 .bf16) :
    ∀ p ∈ (kernelRun0_A (F := Ideal) c i arg2 harg2 arg3 harg3 arg4 harg4 arg5 harg5 arg6 harg6 arg7 harg7 arg8 harg8 arg9 harg9 arg10 harg10 arg11 harg11 hc0 hc1 x0 x1 x2).2.2.2.2.1, ∀ j : p.1.shape.Idx, p.2 j = wide x0 (p.1.emb j) := by
  have hx : x0 = View.readAt (Elt Ideal) arg2.view (Rect.unit (s := S1x256) ![0, 0] S1x256.size inb_S1x256_S1x256_0_0).toLoadRect (harg2.unread x0) := by
    funext j
    refine Eq.trans ?_ (harg2.readAt_unread x0 (Rect.unit (s := S1x256) ![0, 0] S1x256.size inb_S1x256_S1x256_0_0).toLoadRect j).symm
    exact congrArg x0 (funext fun a => Fin.ext (by match a with | ⟨0, _⟩ => show (j 0).val = 0 + 1 * (j 0).val; omega | ⟨1, _⟩ => show (j 1).val = 0 + 1 * (j 1).val; omega))
  unfold kernelRun0_A
  dsimp only
  unfold kernelRun0_A.sl.HS0_16
  rw [show wide x0 = wide (View.readAt (Elt Ideal) arg2.view (Rect.unit (s := S1x256) ![0, 0] S1x256.size inb_S1x256_S1x256_0_0).toLoadRect (harg2.unread x0)) from congrArg wide hx]
  repeat' first | omega | refine List.forall_mem_cons.2 ⟨fun j => Eq.symm (invRow _ _ _ shapeCasts_S1x640_S1x640 ?_ ?_ j), ?_⟩
  exact fun p hp => absurd hp List.not_mem_nil

end Cert.KernelIdeal.Value

end
-- ==== Proof.KBlock.lean ====
/-
   What every grid point leaves behind: its block of codes, the scratch of reciprocals and the copy of the scales.
-/
module

public import proofs.«01_k».proof.Proof.KCodes
public import proofs.«01_k».proof.Proof.KInv
public import Idealize.ShloMosaic.Lib.Pipeline.ValueKit
public import Idealize.ShloMosaic.Lib.Pipeline.ValueKit.Held

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

section Points

variable (c : Dev nD) (i : grid0.Coords) (arg2 : Memref sig .tc .vmem S1x256 .f32) (harg2 : arg2.IsWhole) (arg3 : Memref sig .tc .vmem S1024x256 .f32) (harg3 : arg3.IsWhole) (arg4 : Memref sig .tc .vmem S1x256x10240 .bf16) (harg4 : arg4.IsWhole) (arg5 : Memref sig .tc .vmem S1x256x10240 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x10240 .f32) (harg9 : arg9.IsWhole) (arg10 : Memref sig .tc .vmem S16x10240 .bf16) (harg10 : arg10.IsWhole) (arg11 : Memref sig .tc .vmem S16x640 .f32) (harg11 : arg11.IsWhole)
variable (x0 : Vec Ideal S1x256 .f32) (x1 : Vec Ideal S1024x256 .f32) (x2 : Vec Ideal S1x256x10240 .bf16) (xs0 : Vec Ideal S1x10240 .f32) (xs1 : Vec Ideal S16x10240 .bf16) (xo6 : Vec Ideal S1x256 .f32)

/-- Read back, the first point's stores into the scratch of reciprocals are the row of reciprocals. -/
theorem canonInv (hc0 : cond0_0 i) (hc1 : ¬cond0_1 i) : View.canon (kernelRun0_A (F := Ideal) c i arg2 harg2 arg3 harg3 arg4 harg4 arg5 harg5 arg6 harg6 arg7 harg7 arg8 harg8 arg9 harg9 arg10 harg10 arg11 harg11 hc0 hc1 x0 x1 x2).2.2.2.2.1 = wide x0 :=
  funext fun y => View.canon_apply_of_pieces (wide x0) _ (piecesInv c i arg2 harg2 arg3 harg3 arg4 harg4 arg5 harg5 arg6 harg6 arg7 harg7 arg8 harg8 arg9 harg9 arg10 harg10 arg11 harg11 hc0 hc1 x0 x1 x2) y (scover0_A_0 c i arg2 harg2 arg3 harg3 arg4 harg4 arg5 harg5 arg6 harg6 arg7 harg7 arg8 harg8 arg9 harg9 arg10 harg10 arg11 harg11 hc0 hc1 x0 x1 x2 y)

/-- The first point leaves the row of reciprocals in the scratch. -/
theorem inv_A (hc0 : cond0_0 i) (hc1 : ¬cond0_1 i) : sout0_A_0 (F := Ideal) c i arg2 harg2 arg3 harg3 arg4 harg4 arg5 harg5 arg6 harg6 arg7 harg7 arg8 harg8 arg9 harg9 arg10 harg10 arg11 harg11 hc0 hc1 x0 x1 x2 = wide x0 :=
  (View.read_writes_junk_eq_canon _ _).trans (canonInv c i arg2 harg2 arg3 harg3 arg4 harg4 arg5 harg5 arg6 harg6 arg7 harg7 arg8 harg8 arg9 harg9 arg10 harg10 arg11 harg11 x0 x1 x2 hc0 hc1)

/-- The first point leaves its block of codes. -/
theorem codes_A (hc0 : cond0_0 i) (hc1 : ¬cond0_1 i) : out0_A_3 (F := Ideal) c i arg2 harg2 arg3 harg3 arg4 harg4 arg5 harg5 arg6 harg6 arg7 harg7 arg8 harg8 arg9 harg9 arg10 harg10 arg11 harg11 hc0 hc1 x0 x1 x2 = codeBlk x2 (wide x0) :=
  (View.read_writes_junk_eq_canon _ _).trans ((funext fun y => View.canon_apply_of_pieces _ _ (piecesA c i arg2 harg2 arg3 harg3 arg4 harg4 arg5 harg5 arg6 harg6 arg7 harg7 arg8 harg8 arg9 harg9 arg10 harg10 arg11 harg11 hc0 hc1 x0 x1 x2) y (cover0_A_3 c i arg2 harg2 arg3 harg3 arg4 harg4 arg5 harg5 arg6 harg6 arg7 harg7 arg8 harg8 arg9 harg9 arg10 harg10 arg11 harg11 hc0 hc1 x0 x1 x2 y)).trans
    (congrArg (codeBlk x2) (canonInv c i arg2 harg2 arg3 harg3 arg4 harg4 arg5 harg5 arg6 harg6 arg7 harg7 arg8 harg8 arg9 harg9 arg10 harg10 arg11 harg11 x0 x1 x2 hc0 hc1)))

/-- A middle point leaves its block of codes. -/
theorem codes_B (hc0 : ¬cond0_0 i) (hc1 : ¬cond0_1 i) : out0_B_3 (F := Ideal) c i arg2 harg2 arg3 harg3 arg4 harg4 arg5 harg5 arg6 harg6 arg7 harg7 arg8 harg8 arg9 harg9 arg10 harg10 arg11 harg11 hc0 hc1 x0 x1 x2 xs0 xs1 = codeBlk x2 xs0 :=
  (View.read_writes_junk_eq_canon _ _).trans (funext fun y => View.canon_apply_of_pieces _ _ (piecesB c i arg2 harg2 arg3 harg3 arg4 harg4 arg5 harg5 arg6 harg6 arg7 harg7 arg8 harg8 arg9 harg9 arg10 harg10 arg11 harg11 hc0 hc1 x0 x1 x2 xs0 xs1) y (cover0_B_3 c i arg2 harg2 arg3 harg3 arg4 harg4 arg5 harg5 arg6 harg6 arg7 harg7 arg8 harg8 arg9 harg9 arg10 harg10 arg11 harg11 hc0 hc1 x0 x1 x2 xs0 xs1 y))

/-- The last point leaves its block of codes. -/
theorem codes_C (hc0 : ¬cond0_0 i) (hc1 : cond0_1 i) : out0_C_3 (F := Ideal) c i arg2 harg2 arg3 harg3 arg4 harg4 arg5 harg5 arg6 harg6 arg7 harg7 arg8 harg8 arg9 harg9 arg10 harg10 arg11 harg11 hc0 hc1 x0 x1 x2 xo6 xs0 xs1 = codeBlk x2 xs0 :=
  (View.read_writes_junk_eq_canon _ _).trans (funext fun y => View.canon_apply_of_pieces _ _ (piecesC c i arg2 harg2 arg3 harg3 arg4 harg4 arg5 harg5 arg6 harg6 arg7 harg7 arg8 harg8 arg9 harg9 arg10 harg10 arg11 harg11 hc0 hc1 x0 x1 x2 xo6 xs0 xs1) y (cover0_C_3 c i arg2 harg2 arg3 harg3 arg4 harg4 arg5 harg5 arg6 harg6 arg7 harg7 arg8 harg8 arg9 harg9 arg10 harg10 arg11 harg11 hc0 hc1 x0 x1 x2 xo6 xs0 xs1 y))

/-- The first point leaves the scales in the copy. -/
theorem used_A (hc0 : cond0_0 i) (hc1 : ¬cond0_1 i) : out0_A_6 (F := Ideal) c i arg2 harg2 arg3 harg3 arg4 harg4 arg5 harg5 arg6 harg6 arg7 harg7 arg8 harg8 arg9 harg9 arg10 harg10 arg11 harg11 hc0 hc1 x0 x1 x2 = x0 := by
  refine (View.read_writes_junk_eq_canon _ _).trans (funext fun y => View.canon_apply_of_pieces x0 _ ?_ y (cover0_A_6 c i arg2 harg2 arg3 harg3 arg4 harg4 arg5 harg5 arg6 harg6 arg7 harg7 arg8 harg8 arg9 harg9 arg10 harg10 arg11 harg11 hc0 hc1 x0 x1 x2 y))
  unfold kernelRun0_A
  dsimp only
  refine List.forall_mem_cons.2 ⟨fun j => ?_, fun p hp => absurd hp List.not_mem_nil⟩
  refine (shapeCast_apply _ _ j j rfl).trans ((harg2.readAt_unread x0 (Rect.unit (s := S1x256) ![0, 0] S1x256.size inb_S1x256_S1x256_0_0).toLoadRect j).trans rfl)

end Points

end Cert.KernelIdeal.Value

end
-- ==== Proof.KPoint.lean ====
/-
   The arrays of codes and of scales after the run, written in terms of the arguments.
-/
module

public import proofs.«01_k».proof.Proof.KBlock
public import Idealize.ShloMosaic.Lib.Pipeline.ValueKit
public import Idealize.ShloMosaic.Lib.Pipeline.ValueKit.Held

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- Every point's block of scales is the whole row of scales. -/
theorem iblk0_at (c : Dev nD) (t : Fin cfg0.N) : iblk m c 0 t = V m c main_v0 := by
  have hz : ∀ t : Fin grid0.N, win0_0.index t (0 : Fin 2) = 0 ∧ win0_0.index t (1 : Fin 2) = 0 := by decide +kernel
  obtain ⟨e0, e1⟩ := hz t
  refine funext fun j => ?_
  show V m c main_v0 (((cfg0.win 0).blk t).view.emb j) = V m c main_v0 j
  congr 1
  refine funext fun a => Fin.ext ?_
  match a with
  | ⟨0, _⟩ => show win0_0.index t (0 : Fin 2) * 1 + 1 * (j 0).val = (j 0).val; omega
  | ⟨1, _⟩ => show win0_0.index t (1 : Fin 2) * 256 + 1 * (j 1).val = (j 1).val; omega

/-- The scratch of reciprocals holds the row of reciprocals after every point. -/
theorem inv_at (c : Dev nD) (t : Fin cfg0.N) : (outsAt0 m c t.val t.isLt).2.2.2.2.1 = wide (V m c main_v0) := by
  refine Idealize.ShloMosaic.Pipeline.eq_of_write_hold (fun n h => (outsAt0 m c n h).2.2.2.2.1) 40 (fun _ => wide (V m c main_v0)) ?_ ?_ t
  · intro t h0
    have h1 : ¬t.val % 40 = 39 := by omega
    show (outsAt0 m c t.val t.isLt).2.2.2.2.1 = _
    rw [outsAt0_A m c t h0 h1]
    refine Eq.trans (b := wide (iblk m c 0 t)) ?_ (congrArg wide (iblk0_at m c t))
    dsimp only
    rw [inv_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) ((hcond0_0 t).mpr h0) (fun h => h1 ((hcond0_1 t).mp h))]
  · intro t h0
    show (outsAt0 m c t.val t.isLt).2.2.2.2.1 = _
    by_cases h1 : t.val % 40 = 39
    · rw [outsAt0_C m c t h0 h1]; rfl
    · rw [outsAt0_B m c t h0 h1]; rfl

/-- The copy of the scales holds the row of scales after every point. -/
theorem used_at (c : Dev nD) (t : Fin cfg0.N) : (outsAt0 m c t.val t.isLt).2.2.2.1 = V m c main_v0 := by
  refine Idealize.ShloMosaic.Pipeline.eq_of_write_hold (fun n h => (outsAt0 m c n h).2.2.2.1) 40 (fun _ => V m c main_v0) ?_ ?_ t
  · intro t h0
    have h1 : ¬t.val % 40 = 39 := by omega
    show (outsAt0 m c t.val t.isLt).2.2.2.1 = _
    rw [outsAt0_A m c t h0 h1]
    refine Eq.trans (b := iblk m c 0 t) ?_ (iblk0_at m c t)
    exact used_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) ((hcond0_0 t).mpr h0) (fun h => h1 ((hcond0_1 t).mp h))
  · intro t h0
    show (outsAt0 m c t.val t.isLt).2.2.2.1 = _
    by_cases h1 : t.val % 40 = 39
    · rw [outsAt0_C m c t h0 h1]; rfl
    · rw [outsAt0_B m c t h0 h1]; rfl

set_option maxHeartbeats 2000000 in
/-- Every point leaves the block of codes of its block of the input. -/
theorem codes_at (c : Dev nD) (t : Fin cfg0.N) : (outsAt0 m c t.val t.isLt).1 = codeBlk (iblk m c 2 t) (wide (V m c main_v0)) := by
  by_cases h0 : t.val % 40 = 0
  · have h1 : ¬t.val % 40 = 39 := by omega
    rw [outsAt0_A m c t h0 h1]
    refine Eq.trans (b := codeBlk (iblk m c 2 t) (wide (iblk m c 0 t))) ?_ (congrArg (fun s => codeBlk (iblk m c 2 t) (wide s)) (iblk0_at m c t))
    dsimp only
    rw [codes_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) ((hcond0_0 t).mpr h0) (fun h => h1 ((hcond0_1 t).mp h))]
  · have hp := inv_at m c ⟨t.val - 1, Nat.lt_of_le_of_lt (Nat.sub_le _ _) t.isLt⟩
    by_cases h1 : t.val % 40 = 39
    · rw [outsAt0_C m c t h0 h1]
      refine Eq.trans ?_ (congrArg (codeBlk (iblk m c 2 t)) hp)
      exact codes_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (outsAt0 m c (t.val - 1) (Nat.lt_of_le_of_lt (Nat.sub_le _ _) t.isLt)).2.2.2.1 (fun h => h0 ((hcond0_0 t).mp h)) ((hcond0_1 t).mpr h1)
    · rw [outsAt0_B m c t h0 h1]
      refine Eq.trans ?_ (congrArg (codeBlk (iblk m c 2 t)) hp)
      exact codes_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) (fun h => h1 ((hcond0_1 t).mp h))

/-- The codes of an input `x` under a row of scales `s`: column `n` is scaled by the reciprocal of scale `n / 40`. -/
def codes (x : Vec Ideal S10x1024x10240 .bf16) (s : Vec Ideal S1x256 .f32) : Vec Ideal S10x1024x10240 .fp8e4m3 :=
  fun y => code1 (x y) (wide s (ix2 0 ⟨(y 2).val, (y 2).isLt⟩))

/-- THE CODES after the run: the codes of the input under the row of scales. -/
theorem final3 (c : Dev nD) : (dats m 0 c).arrAt 3 cfg0.N = codes (V m c main_arg0) (V m c main_v0) := by
  refine (dats m 0 c).arrAt_eq_of_covers 3 (codes (V m c main_arg0) (V m c main_v0)) (by decide +kernel) ?_
  intro t _ y
  have hz : ∀ t : Fin grid0.N, win0_2.index t (0 : Fin 3) = win0_3.index t (0 : Fin 3) ∧ win0_2.index t (1 : Fin 3) = win0_3.index t (1 : Fin 3)
      ∧ win0_2.index t (2 : Fin 3) = 0 ∧ win0_3.index t (2 : Fin 3) = 0 := by decide +kernel
  obtain ⟨e0, e1, e2, e3⟩ := hz t
  show (dats m 0 c).after 3 t y = codes (V m c main_arg0) (V m c main_v0) (((cfg0.win 3).blk t).view.emb y)
  rw [after0_3, codes_at]
  show code1 (V m c main_arg0 (((cfg0.win 2).blk t).view.emb y)) (wide (V m c main_v0) (ix2 0 ⟨(y 2).val, (y 2).isLt⟩))
    = code1 (V m c main_arg0 (((cfg0.win 3).blk t).view.emb y)) (wide (V m c main_v0) (ix2 0 ⟨((((cfg0.win 3).blk t).view.emb y) 2).val, _⟩))
  refine congrArg₂ code1 (congrArg (V m c main_arg0) (funext fun a => Fin.ext ?_)) (congrArg (wide (V m c main_v0)) (congrArg (ix2 0) (Fin.ext ?_)))
  · match a with
    | ⟨0, _⟩ => show win0_2.index t (0 : Fin 3) * 1 + 1 * (y 0).val = win0_3.index t (0 : Fin 3) * 1 + 1 * (y 0).val; omega
    | ⟨1, _⟩ => show win0_2.index t (1 : Fin 3) * 256 + 1 * (y 1).val = win0_3.index t (1 : Fin 3) * 256 + 1 * (y 1).val; omega
    | ⟨2, _⟩ => show win0_2.index t (2 : Fin 3) * 10240 + 1 * (y 2).val = win0_3.index t (2 : Fin 3) * 10240 + 1 * (y 2).val; omega
  · show (y 2).val = win0_3.index t (2 : Fin 3) * 10240 + 1 * (y 2).val
    omega

/-- THE COPY OF THE SCALES after the run: the row of scales. -/
theorem final6 (c : Dev nD) : (dats m 0 c).arrAt 6 cfg0.N = V m c main_v0 := by
  refine (dats m 0 c).arrAt_eq_of_covers 6 (V m c main_v0) (by decide +kernel) ?_
  intro t _ y
  have hz : ∀ t : Fin grid0.N, win0_6.index t (0 : Fin 2) = 0 ∧ win0_6.index t (1 : Fin 2) = 0 := by decide +kernel
  obtain ⟨e0, e1⟩ := hz t
  show (dats m 0 c).after 6 t y = V m c main_v0 (((cfg0.win 6).blk t).view.emb y)
  rw [after0_6, used_at]
  congr 1
  refine funext fun a => Fin.ext ?_
  match a with
  | ⟨0, _⟩ => show (y 0).val = win0_6.index t (0 : Fin 2) * 1 + 1 * (y 0).val; omega
  | ⟨1, _⟩ => show (y 1).val = win0_6.index t (1 : Fin 2) * 256 + 1 * (y 1).val; omega

/-- The row of scales the blocks are cut from is the argument reshaped. -/
theorem V_main_v0 (c : Dev nD) (k : Fin 256) : V m c main_v0 (ix2 0 k) = m ((c : Thread nD τ).loc main_arg2) (ix1 k) := by
  show StableHlo.after hostOps0 (fun b => m (c, b)) main_v0 (ix2 0 k) = _
  rw [StableHlo.after_cons, StableHlo.after_nil, StableHlo.reshape_result']
  refine shapeCast_apply _ _ _ _ ?_
  show (S256.rowMajor (ix1 k)).val = (S1x256.rowMajor (ix2 0 k)).val
  rw [Shape.rowMajor_val_one, Shape.rowMajor_val_two]
  show k.val = 0 * 256 + k.val
  omega

end Cert.KernelIdeal.Value

end
-- ==== Proof.KAmax.lean ====
/- The running magnitudes kept in a scratch: every grid point takes the larger of its block's magnitudes and those before,
   in 40 strips of 256 columns; the last point reduces them over the rows and over every group of 40 columns. -/
module

public import proofs.«01_k».proof.Proof.KValue
public import Idealize.ShloMosaic.Lib.Pointwise
public import Idealize.ShloMosaic.PureOps.Ideal.Laws
public import Idealize.ShloMosaic.Lib.WholeRead
public import Idealize.ShloMosaic.Lib.Pipeline.Value

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)

/-- The largest magnitude among the block's rows `r`, `16 + r`, …, `240 + r` in a column, and the value before. -/
def accBlk (x : Vec Ideal S1x256x10240 .bf16) (prev : Vec Ideal S16x10240 .bf16) : Vec Ideal S16x10240 .bf16 := fun y =>
  max (prev y) (⨆ q : Fin 16, (FloatOps.absf (F := Ideal) (φ := .bf16) (x (ix3 0 ⟨16 * q.val + (y 0).val, by have h : (y 0).val < 16 := (y 0).isLt; omega⟩ ⟨(y 1).val, (y 1).isLt⟩)) : EReal))

/-- A fold of `max` from the least value is the supremum. -/
theorem fold_max_bot {n : ℕ} (f : Fin n → EReal) (b : EReal) (hb : b = ⊥) : (Finset.univ : Finset (Fin n)).fold max b f = ⨆ k, f k := by
  subst hb
  refine eq_of_forall_ge_iff fun u => ?_
  rw [Finset.fold_max_le, iSup_le_iff]
  simp

/-- A strip's payload at an index. -/
theorem pay48_apply (v : Vec Ideal S1x256x256 .bf16) (p : Vec Ideal S16x256 .bf16) (r : Fin 16) (w : Fin 256) :
    k0_pay48 v p (ix2 r w) = max (p (ix2 r w)) (⨆ q : Fin 16, (FloatOps.absf (F := Ideal) (φ := .bf16) (v (ix3 0 ⟨16 * q.val + r.val, by omega⟩ w)) : EReal)) := by
  unfold k0_pay48 k0_pay47
  refine (shapeCast_apply _ _ _ (ix2 r w) rfl).trans ?_
  refine congrArg (max (p (ix2 r w))) ?_
  refine (Ideal.multiReduction_maximumf_single _ _ _ _ _ _).trans ((fold_max_bot _ _ ?_).trans (iSup_congr fun q => ?_))
  · show Ideal.ofBits .bf16 0xFF80#16 = ⊥
    simp [Ideal.ofBits, Ideal.ieee]
  · have hq : q.val < 16 := q.isLt
    have hr := r.isLt
    refine (shapeCast_apply _ _ _ (ix2 ⟨16 * q.val + r.val, by omega⟩ w) ?_).trans ?_
    · rw [Shape.rowMajor_val_three, Shape.rowMajor_val_two]
      show (16 * q.val + r.val) * 256 + w.val = (q.val * 16 + r.val) * 256 + w.val
      omega
    · refine congrArg (FloatOps.absf (F := Ideal) (φ := .bf16)) (shapeCast_apply _ _ _ (ix3 0 ⟨16 * q.val + r.val, by omega⟩ w) ?_)
      rw [Shape.rowMajor_val_three, Shape.rowMajor_val_two]
      show (0 * 256 + (16 * q.val + r.val)) * 256 + w.val = (16 * q.val + r.val) * 256 + w.val
      omega

/-- A strip of the running magnitudes: the payload of the strip's columns of the block and of the values before. -/
theorem stripAcc (x : Vec Ideal S1x256x10240 .bf16) (prev : Vec Ideal S16x10240 .bf16) (o : ℕ)
    (h : ∀ a : Fin S1x256x10240.rank, (![0, 0, o] : Fin 3 → ℕ) a + S1x256x256.size a ≤ S1x256x10240.size a)
    (h' : ∀ a : Fin S16x10240.rank, (![0, o] : Fin 2 → ℕ) a + S16x256.size a ≤ S16x10240.size a)
    (v : Vec Ideal S1x256x256 .bf16) (p : Vec Ideal S16x256 .bf16)
    (hv : ∀ j, v j = x ((Rect.unit (s := S1x256x10240) ![0, 0, o] S1x256x256.size h).toLoadRect.idx j))
    (hp : ∀ j, p j = prev ((Rect.unit (s := S16x10240) ![0, o] S16x256.size h').toLoadRect.idx j)) (j : S16x256.Idx) :
    accBlk x prev ((Rect.unit (s := S16x10240) ![0, o] S16x256.size h').emb j) = k0_pay48 v p j := by
  idx_vars j
  rw [pay48_apply, hp]
  unfold accBlk
  refine congrArg₂ max rfl (iSup_congr fun q => ?_)
  rw [hv]
  refine congrArg (fun z => FloatOps.absf (F := Ideal) (φ := .bf16) (x z)) (funext fun a => Fin.ext ?_)
  match a with
  | ⟨0, _⟩ => rfl
  | ⟨1, _⟩ => show 16 * q.val + (0 + 1 * j0.val) = 0 + 1 * (16 * q.val + j0.val); omega
  | ⟨2, _⟩ => rfl

/-- A strip of the running magnitudes whose operands are loaded from whole buffers. -/
theorem stripAccB (arg4 : Memref sig .tc .vmem S1x256x10240 .bf16) (harg4 : arg4.IsWhole) (arg10 : Memref sig .tc .vmem S16x10240 .bf16) (harg10 : arg10.IsWhole)
    (x : Vec Ideal S1x256x10240 .bf16) (prev : Vec Ideal S16x10240 .bf16) (o : ℕ)
    (h : ∀ a : Fin S1x256x10240.rank, (![0, 0, o] : Fin 3 → ℕ) a + S1x256x256.size a ≤ S1x256x10240.size a)
    (h' : ∀ a : Fin S16x10240.rank, (![0, o] : Fin 2 → ℕ) a + S16x256.size a ≤ S16x10240.size a) (j : S16x256.Idx) :
    accBlk x prev ((Rect.unit (s := S16x10240) ![0, o] S16x256.size h').emb j)
      = k0_pay48 (View.readAt (Elt Ideal) arg4.view (Rect.unit (s := S1x256x10240) ![0, 0, o] S1x256x256.size h).toLoadRect (harg4.unread x))
          (View.readAt (Elt Ideal) arg10.view (Rect.unit (s := S16x10240) ![0, o] S16x256.size h').toLoadRect (harg10.unread prev)) j :=
  stripAcc x prev o h h' _ _ (fun j => harg4.readAt_unread x (Rect.unit (s := S1x256x10240) ![0, 0, o] S1x256x256.size h).toLoadRect j)
    (fun j => harg10.readAt_unread prev (Rect.unit (s := S16x10240) ![0, o] S16x256.size h').toLoadRect j) j

/-- Every store into the running magnitudes at a middle point is a strip of the new ones. -/
theorem piecesAccB (c : Dev nD) (i : grid0.Coords) (arg2 : Memref sig .tc .vmem S1x256 .f32) (harg2 : arg2.IsWhole) (arg3 : Memref sig .tc .vmem S1024x256 .f32) (harg3 : arg3.IsWhole) (arg4 : Memref sig .tc .vmem S1x256x10240 .bf16) (harg4 : arg4.IsWhole) (arg5 : Memref sig .tc .vmem S1x256x10240 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x10240 .f32) (harg9 : arg9.IsWhole) (arg10 : Memref sig .tc .vmem S16x10240 .bf16) (harg10 : arg10.IsWhole) (arg11 : Memref sig .tc .vmem S16x640 .f32) (harg11 : arg11.IsWhole) (hc0 : ¬cond0_0 i) (hc1 : ¬cond0_1 i) (x0 : Vec Ideal S1x256 .f32) (x1 : Vec Ideal S1024x256 .f32) (x2 : Vec Ideal S1x256x10240 .bf16) (xs0 : Vec Ideal S1x10240 .f32) (xs1 : Vec Ideal S16x10240 .bf16) :
    ∀ p ∈ (kernelRun0_B (F := Ideal) c i arg2 harg2 arg3 harg3 arg4 harg4 arg5 harg5 arg6 harg6 arg7 harg7 arg8 harg8 arg9 harg9 arg10 harg10 arg11 harg11 hc0 hc1 x0 x1 x2 xs0 xs1).2.2.2.2.2.1, ∀ j : p.1.shape.Idx, p.2 j = accBlk x2 xs1 (p.1.emb j) := by
  unfold kernelRun0_B
  dsimp only
  repeat' (refine List.forall_mem_cons.2 ⟨fun j => Eq.symm (stripAccB arg4 harg4 arg10 harg10 x2 xs1 _ _ _ j), ?_⟩)
  exact fun p hp => absurd hp List.not_mem_nil

/-- Every store into the running magnitudes at the last point is a strip of the new ones. -/
theorem piecesAccC (c : Dev nD) (i : grid0.Coords) (arg2 : Memref sig .tc .vmem S1x256 .f32) (harg2 : arg2.IsWhole) (arg3 : Memref sig .tc .vmem S1024x256 .f32) (harg3 : arg3.IsWhole) (arg4 : Memref sig .tc .vmem S1x256x10240 .bf16) (harg4 : arg4.IsWhole) (arg5 : Memref sig .tc .vmem S1x256x10240 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x10240 .f32) (harg9 : arg9.IsWhole) (arg10 : Memref sig .tc .vmem S16x10240 .bf16) (harg10 : arg10.IsWhole) (arg11 : Memref sig .tc .vmem S16x640 .f32) (harg11 : arg11.IsWhole) (hc0 : ¬cond0_0 i) (hc1 : cond0_1 i) (x0 : Vec Ideal S1x256 .f32) (x1 : Vec Ideal S1024x256 .f32) (x2 : Vec Ideal S1x256x10240 .bf16) (xo6 : Vec Ideal S1x256 .f32) (xs0 : Vec Ideal S1x10240 .f32) (xs1 : Vec Ideal S16x10240 .bf16) :
    ∀ p ∈ (kernelRun0_C (F := Ideal) c i arg2 harg2 arg3 harg3 arg4 harg4 arg5 harg5 arg6 harg6 arg7 harg7 arg8 harg8 arg9 harg9 arg10 harg10 arg11 harg11 hc0 hc1 x0 x1 x2 xo6 xs0 xs1).2.2.2.2.2.1, ∀ j : p.1.shape.Idx, p.2 j = accBlk x2 xs1 (p.1.emb j) := by
  unfold kernelRun0_C
  dsimp only
  unfold kernelRun0_C.sl.HS1_40
  repeat' (refine List.forall_mem_cons.2 ⟨fun j => Eq.symm (stripAccB arg4 harg4 arg10 harg10 x2 xs1 _ _ _ j), ?_⟩)
  exact fun p hp => absurd hp List.not_mem_nil

/-- The first `256 n` columns of the stores `L` are the new running magnitudes, the others still hold `z`. -/
def Upto (x : Vec Ideal S1x256x10240 .bf16) (z : Ideal .bf16) (L : List (View.Piece (Elt Ideal) S16x10240 .bf16)) (n : ℕ) : Prop :=
  (∀ y : S16x10240.Idx, (y 1).val < 256 * n → View.canon L y = accBlk x (fun _ => z) y) ∧ ∀ y : S16x10240.Idx, 256 * n ≤ (y 1).val → View.canon L y = z

/-- One more strip, for any payload that agrees with the new running magnitudes there. -/
theorem upto_gen (x : Vec Ideal S1x256x10240 .bf16) (z : Ideal .bf16) (L : List (View.Piece (Elt Ideal) S16x10240 .bf16)) (n o : ℕ) (ho : o = 256 * n)
    (r : Rect S16x10240) (hoff : r.off 1 = o) (hst : r.stride 1 = 1) (hsz : r.size 1 = 256)
    (hmem : ∀ y : S16x10240.Idx, o ≤ (y 1).val → (y 1).val < o + 256 → ∃ j, r.emb j = y)
    (w : r.shape.Idx → Elt Ideal .bf16) (hw : ∀ j, w j = accBlk x (fun _ => z) (r.emb j)) (hL : Upto x z L n) :
    Upto x z (⟨r, w⟩ :: L) (n + 1) := by
  have hm : ∀ y : S16x10240.Idx, ((y 1).val < o ∨ o + 256 ≤ (y 1).val) → View.canon (⟨r, w⟩ :: L) y = View.canon L y :=
    fun y hy => View.canon_cons_of_not_mem ⟨r, w⟩ L (Rect.not_mem_set_of_axis r y 1 o 256 hoff hst hsz hy)
  refine ⟨fun y hy => ?_, fun y hy => (hm y (Or.inr (by omega))).trans (hL.2 y (by omega))⟩
  rcases Nat.lt_or_ge (y 1).val o with hn | hn
  · exact (hm y (Or.inl hn)).trans (hL.1 y (by omega))
  · obtain ⟨j, rfl⟩ := hmem y hn (by omega)
    exact (View.canon_cons_emb r w L j).trans (hw j)

/-- One more strip. -/
theorem upto_step (arg4 : Memref sig .tc .vmem S1x256x10240 .bf16) (harg4 : arg4.IsWhole) (arg10 : Memref sig .tc .vmem S16x10240 .bf16)
    (x : Vec Ideal S1x256x10240 .bf16) (z : Ideal .bf16) (L : List (View.Piece (Elt Ideal) S16x10240 .bf16)) (n o : ℕ) (ho : o = 256 * n)
    (h : ∀ a : Fin S1x256x10240.rank, (![0, 0, o] : Fin 3 → ℕ) a + S1x256x256.size a ≤ S1x256x10240.size a)
    (h' : ∀ a : Fin S16x10240.rank, (![0, o] : Fin 2 → ℕ) a + S16x256.size a ≤ S16x10240.size a) (hL : Upto x z L n) :
    Upto x z (⟨Rect.unit (s := S16x10240) ![0, o] S16x256.size h',
      k0_pay48 (View.readAt (Elt Ideal) arg4.view (Rect.unit (s := S1x256x10240) ![0, 0, o] S1x256x256.size h).toLoadRect (harg4.unread x))
        (arg10.view.readCov L (Rect.unit (s := S16x10240) ![0, o] S16x256.size h').toLoadRect)⟩ :: L) (n + 1) := by
  refine upto_gen x z L n o ho _ rfl rfl rfl (fun y hn hy => ?_) _ (fun j => ?_) hL
  · have hy0 : (y 0).val < 16 := (y 0).isLt
    exact ⟨ix2 ⟨(y 0).val, hy0⟩ ⟨(y 1).val - o, by omega⟩, Rect.emb_eq_of_coords _ _ _ fun a => by
      match a with
      | ⟨0, _⟩ => show (y 0).val = 0 + 1 * (y 0).val; omega
      | ⟨1, _⟩ => show (y 1).val = o + 1 * ((y 1).val - o); omega⟩
  · refine (stripAcc x (fun _ => z) o h h' _ _
        (fun j => harg4.readAt_unread x (Rect.unit (s := S1x256x10240) ![0, 0, o] S1x256x256.size h).toLoadRect j) (fun j => ?_) j).symm
    refine (congrFun (View.readCov_eq_canon' arg10.view L (Rect.unit (s := S16x10240) ![0, o] S16x256.size h').toLoadRect) j).trans (hL.2 _ ?_)
    show 256 * n ≤ o + 1 * (j 1).val
    omega

/-- A store over the whole scratch leaves its payload everywhere. -/
theorem upto_zero (x : Vec Ideal S1x256x10240 .bf16) (z : Ideal .bf16) (h : ∀ a : Fin S16x10240.rank, (![0, 0] : Fin 2 → ℕ) a + S16x10240.size a ≤ S16x10240.size a)
    (w : S16x10240.Idx → Elt Ideal .bf16) (hw : ∀ j, w j = z) : Upto x z [⟨Rect.unit (s := S16x10240) ![0, 0] S16x10240.size h, w⟩] 0 := by
  refine ⟨fun y hy => absurd hy (Nat.not_lt_zero _), fun y _ => ?_⟩
  have hy : (Rect.unit (s := S16x10240) ![0, 0] S16x10240.size h).emb y = y := Rect.emb_eq_of_coords _ _ _ fun a => by
    match a with
    | ⟨0, _⟩ => show (y 0).val = 0 + 1 * (y 0).val; omega
    | ⟨1, _⟩ => show (y 1).val = 0 + 1 * (y 1).val; omega
  exact (congrArg (View.canon _) hy.symm).trans ((View.canon_cons_emb (Rect.unit (s := S16x10240) ![0, 0] S16x10240.size h) w [] y).trans (hw y))

/-- Every store into the running magnitudes at the first point, which zeroes them before. -/
theorem uptoA (c : Dev nD) (i : grid0.Coords) (arg2 : Memref sig .tc .vmem S1x256 .f32) (harg2 : arg2.IsWhole) (arg3 : Memref sig .tc .vmem S1024x256 .f32) (harg3 : arg3.IsWhole) (arg4 : Memref sig .tc .vmem S1x256x10240 .bf16) (harg4 : arg4.IsWhole) (arg5 : Memref sig .tc .vmem S1x256x10240 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x10240 .f32) (harg9 : arg9.IsWhole) (arg10 : Memref sig .tc .vmem S16x10240 .bf16) (harg10 : arg10.IsWhole) (arg11 : Memref sig .tc .vmem S16x640 .f32) (harg11 : arg11.IsWhole) (hc0 : cond0_0 i) (hc1 : ¬cond0_1 i) (x0 : Vec Ideal S1x256 .f32) (x1 : Vec Ideal S1024x256 .f32) (x2 : Vec Ideal S1x256x10240 .bf16) :
    Upto x2 (FloatOps.ofBits (F := Ideal) .bf16 0x0000#16) (kernelRun0_A (F := Ideal) c i arg2 harg2 arg3 harg3 arg4 harg4 arg5 harg5 arg6 harg6 arg7 harg7 arg8 harg8 arg9 harg9 arg10 harg10 arg11 harg11 hc0 hc1 x0 x1 x2).2.2.2.2.2.1 40 := by
  unfold kernelRun0_A
  dsimp only
  iterate 40 refine upto_step arg4 harg4 arg10 x2 _ _ _ _ (by rfl) _ _ ?_
  unfold kernelRun0_A.sl.HS1_1
  exact upto_zero _ _ _ _ fun j => rfl

/-- The maximum over the sixteen rows, column by column. -/
theorem pay18_apply (v : Vec Ideal S16x10240 .bf16) (n : Fin 10240) : k0_pay18 v (ix2 0 n) = (⨆ r : Fin 16, v (ix2 r n) : EReal) := by
  unfold k0_pay18
  refine (shapeCast_apply _ _ _ (ix1 n) (by
    rw [Shape.rowMajor_val_one, Shape.rowMajor_val_two]
    show n.val = 0 * 10240 + n.val
    omega)).trans ?_
  refine (Ideal.multiReduction_maximumf_single _ _ _ _ _ _).trans ((fold_max_bot _ _ ?_).trans (iSup_congr fun r => ?_))
  · show Ideal.ofBits .f32 0xFF800000#32 = ⊥
    simp [Ideal.ofBits, Ideal.ieee]
  · exact congrArg v (funext fun a => Fin.ext (by match a with | ⟨0, _⟩ => rfl | ⟨1, _⟩ => rfl))

/-- The stretch of 640 columns that begins at column `640 g`. -/
theorem slicesCol (o g : ℕ) (hg : g < 16) (ho : o = 640 * g) : S1x10240.Slices ![0, o] S1x640 :=
  ⟨rfl, fun a => by
    match a with
    | ⟨0, _⟩ => show 0 + 1 ≤ 1; omega
    | ⟨1, _⟩ => show o + 640 ≤ 10240; omega⟩

/-- A row of 10240 laid out in 16 rows of 640. -/
def rows16 (v : FVec Ideal S1x10240 .f32) : Vec Ideal S16x640 .f32 := fun y =>
  v (ix2 0 ⟨640 * (y 0).val + (y 1).val, by have h0 : (y 0).val < 16 := (y 0).isLt; have h1 : (y 1).val < 640 := (y 1).isLt; omega⟩)

/-- Row `g` lies inside the sixteen rows. -/
theorem insideGrp (g : ℕ) (hg : g < 16) (a : Fin S16x640.rank) : (![g, 0] : Fin 2 → ℕ) a + S1x640.size a ≤ S16x640.size a := by
  match a with
  | ⟨0, _⟩ => show g + 1 ≤ 16; omega
  | ⟨1, _⟩ => show 0 + 640 ≤ 640; omega

/-- Row `g` of that layout is the stretch that begins at column `640 g`. -/
theorem grpRow (v : FVec Ideal S1x10240 .f32) (o g : ℕ) (hc : S1x640.ShapeCasts S1x640) (hg : g < 16) (ho : o = 640 * g) (j : S1x640.Idx) :
    rows16 v ((Rect.unit (s := S16x640) ![g, 0] S1x640.size (insideGrp g hg)).emb j)
      = shapeCast S1x640 (extractStridedSlice S1x640 ![0, o] v (slicesCol o g hg ho)) hc j := by
  have h0 : (j 0).val < 1 := (j 0).isLt
  have h1 : (j 1).val < 640 := (j 1).isLt
  rw [shapeCast_apply _ _ j j rfl, extractStridedSlice_apply _ _ _ j (ix2 0 ⟨o + (j 1).val, by omega⟩) (fun a => match a with
    | ⟨0, _⟩ => by show 0 = 0 + (j 0).val; omega
    | ⟨1, _⟩ => by show o + (j 1).val = o + (j 1).val; omega)]
  unfold rows16
  refine congrArg v (congrArg (ix2 0) (Fin.ext ?_))
  show 640 * (g + 1 * (j 0).val) + (0 + 1 * (j 1).val) = o + (j 1).val
  omega

/-- Sixteen rows of sixteen: row `n`. -/
theorem slicesT (n : Fin 16) : S16x16.Slices ![n.val, 0] S1x16 :=
  ⟨rfl, fun a => by
    have hn := n.isLt
    match a with
    | ⟨0, _⟩ => show n.val + 1 ≤ 16; omega
    | ⟨1, _⟩ => show 0 + 16 ≤ 16; omega⟩

/-- The maximum over each group of forty columns, from the sixteen rows of 640. -/
theorem pay36_apply (v : Vec Ideal S16x640 .f32) (k : Fin 256) :
    k0_pay36 v (ix2 0 k) = (⨆ w : Fin 40, v (ix2 ⟨k.val / 16, by omega⟩ ⟨k.val % 16 * 40 + w.val, by omega⟩) : EReal) := by
  have hk := k.isLt
  unfold k0_pay36
  refine (concatenate_ofFn_apply (t := S1x256) (s₁ := S1x16) (1 : Fin 2) (fun n : Fin 16 => extractStridedSlice S1x16 ![n.val, 0]
      (transpose S16x16 [1, 0] (multiReduction (F := Ideal) (φ := .f32) .maximumf [1] S16x16 (shapeCast S16x40x16 (transpose S640x16 [1, 0] v transposes_S16x640_p1_0_S640x16) shapeCasts_S640x16_S16x40x16) 0xFF800000#32 reduces_S16x40x16_S16x16 (.inl rfl) rfl) transposes_S16x16_p1_0_S16x16)
      (slicesT n)) _ rfl 16 rfl (ix2 0 k) ⟨k.val / 16, by omega⟩ rfl (ix2 0 ⟨k.val % 16, by omega⟩) rfl (fun b => by
        match b with | ⟨0, _⟩ => exact fun _ => rfl | ⟨1, _⟩ => exact fun h => absurd rfl h)).trans ?_
  refine (extractStridedSlice_apply _ _ _ _ (ix2 ⟨k.val / 16, by omega⟩ ⟨k.val % 16, by omega⟩) (fun a => by match a with | ⟨0, _⟩ => rfl | ⟨1, _⟩ => show k.val % 16 = 0 + k.val % 16; omega)).trans ?_
  refine (transpose_apply _ _ _ _ (ix2 ⟨k.val % 16, by omega⟩ ⟨k.val / 16, by omega⟩) (fun b => by match b with | ⟨0, _⟩ => rfl | ⟨1, _⟩ => rfl)).trans ?_
  refine (Ideal.multiReduction_maximumf_single _ _ _ _ _ _).trans ((fold_max_bot _ _ ?_).trans (iSup_congr fun w => ?_))
  · show Ideal.ofBits .f32 0xFF800000#32 = ⊥
    simp [Ideal.ofBits, Ideal.ieee]
  · have hw : w.val < 40 := w.isLt
    refine (shapeCast_apply _ _ _ (ix2 ⟨k.val % 16 * 40 + w.val, by omega⟩ ⟨k.val / 16, by omega⟩) (by
      rw [Shape.rowMajor_val_three, Shape.rowMajor_val_two]
      show (k.val % 16 * 40 + w.val) * 16 + k.val / 16 = (k.val % 16 * 40 + w.val) * 16 + k.val / 16
      rfl)).trans ?_
    exact transpose_apply _ _ _ _ (ix2 ⟨k.val / 16, by omega⟩ ⟨k.val % 16 * 40 + w.val, by omega⟩) (fun b => by match b with | ⟨0, _⟩ => rfl | ⟨1, _⟩ => rfl)

/-- The maximum over a group of forty columns and the sixteen rows of the running magnitudes. -/
def amaxOf (a : Vec Ideal S16x10240 .bf16) : Vec Ideal S1x256 .f32 := fun y =>
  (⨆ w : Fin 40, ⨆ r : Fin 16, a (ix2 r ⟨40 * (y 1).val + w.val, by have h : (y 1).val < 256 := (y 1).isLt; omega⟩) : EReal)

/-- The rows of maxima, reduced over the groups of forty. -/
theorem amax_rows (a : Vec Ideal S16x10240 .bf16) : k0_pay36 (rows16 (k0_pay18 a)) = amaxOf a := by
  funext y
  idx_vars y
  obtain rfl : y0 = 0 := Subsingleton.elim _ _
  rw [pay36_apply]
  refine iSup_congr fun w => ?_
  refine (pay18_apply a _).trans (iSup_congr fun r => congrArg a (congrArg (ix2 r) (Fin.ext ?_)))
  show 640 * (y1.val / 16) + (y1.val % 16 * 40 + w.val) = 40 * y1.val + w.val
  omega

section Points

variable (c : Dev nD) (i : grid0.Coords) (arg2 : Memref sig .tc .vmem S1x256 .f32) (harg2 : arg2.IsWhole) (arg3 : Memref sig .tc .vmem S1024x256 .f32) (harg3 : arg3.IsWhole) (arg4 : Memref sig .tc .vmem S1x256x10240 .bf16) (harg4 : arg4.IsWhole) (arg5 : Memref sig .tc .vmem S1x256x10240 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x10240 .f32) (harg9 : arg9.IsWhole) (arg10 : Memref sig .tc .vmem S16x10240 .bf16) (harg10 : arg10.IsWhole) (arg11 : Memref sig .tc .vmem S16x640 .f32) (harg11 : arg11.IsWhole)
variable (x0 : Vec Ideal S1x256 .f32) (x1 : Vec Ideal S1024x256 .f32) (x2 : Vec Ideal S1x256x10240 .bf16) (xs0 : Vec Ideal S1x10240 .f32) (xs1 : Vec Ideal S16x10240 .bf16) (xo6 : Vec Ideal S1x256 .f32)

/-- The first point leaves its block's magnitudes. -/
theorem acc_A (hc0 : cond0_0 i) (hc1 : ¬cond0_1 i) : sout0_A_1 (F := Ideal) c i arg2 harg2 arg3 harg3 arg4 harg4 arg5 harg5 arg6 harg6 arg7 harg7 arg8 harg8 arg9 harg9 arg10 harg10 arg11 harg11 hc0 hc1 x0 x1 x2 = accBlk x2 (fun _ => FloatOps.ofBits (F := Ideal) .bf16 0x0000#16) :=
  (View.read_writes_junk_eq_canon _ _).trans (funext fun y => (uptoA c i arg2 harg2 arg3 harg3 arg4 harg4 arg5 harg5 arg6 harg6 arg7 harg7 arg8 harg8 arg9 harg9 arg10 harg10 arg11 harg11 hc0 hc1 x0 x1 x2).1 y (show (y 1).val < 10240 from (y 1).isLt))

/-- A middle point leaves the larger of its block's magnitudes and those before. -/
theorem acc_B (hc0 : ¬cond0_0 i) (hc1 : ¬cond0_1 i) : sout0_B_1 (F := Ideal) c i arg2 harg2 arg3 harg3 arg4 harg4 arg5 harg5 arg6 harg6 arg7 harg7 arg8 harg8 arg9 harg9 arg10 harg10 arg11 harg11 hc0 hc1 x0 x1 x2 xs0 xs1 = accBlk x2 xs1 :=
  (View.read_writes_junk_eq_canon _ _).trans (funext fun y => View.canon_apply_of_pieces _ _ (piecesAccB c i arg2 harg2 arg3 harg3 arg4 harg4 arg5 harg5 arg6 harg6 arg7 harg7 arg8 harg8 arg9 harg9 arg10 harg10 arg11 harg11 hc0 hc1 x0 x1 x2 xs0 xs1) y (scover0_B_1 c i arg2 harg2 arg3 harg3 arg4 harg4 arg5 harg5 arg6 harg6 arg7 harg7 arg8 harg8 arg9 harg9 arg10 harg10 arg11 harg11 hc0 hc1 x0 x1 x2 xs0 xs1 y))

include c i arg2 harg2 arg3 harg3 arg4 harg4 arg5 harg5 arg6 harg6 arg7 harg7 arg8 harg8 arg9 harg9 arg10 harg10 arg11 harg11 x0 x1 x2 xo6 xs0 xs1 in
/-- What the last point reads back of the running magnitudes. -/
theorem v888_eq (hc0 : ¬cond0_0 i) (hc1 : cond0_1 i) : kernelRun0_C.sl.v888 (F := Ideal) c arg4 harg4 arg10 harg10 x2 xs1 = accBlk x2 xs1 := by
  unfold kernelRun0_C.sl.v888
  refine (View.readCov_eq_canon' _ _ _).trans (funext fun j => ?_)
  refine (View.canon_apply_of_pieces _ _ (piecesAccC c i arg2 harg2 arg3 harg3 arg4 harg4 arg5 harg5 arg6 harg6 arg7 harg7 arg8 harg8 arg9 harg9 arg10 harg10 arg11 harg11 hc0 hc1 x0 x1 x2 xo6 xs0 xs1) _ (scover0_C_1 c i arg2 harg2 arg3 harg3 arg4 harg4 arg5 harg5 arg6 harg6 arg7 harg7 arg8 harg8 arg9 harg9 arg10 harg10 arg11 harg11 hc0 hc1 x0 x1 x2 xo6 xs0 xs1 _)).trans (congrArg (accBlk x2 xs1) (funext fun a => Fin.ext ?_))
  match a with
  | ⟨0, _⟩ => show 0 + 1 * (j 0).val = (j 0).val; omega
  | ⟨1, _⟩ => show 0 + 1 * (j 1).val = (j 1).val; omega

/-- The sixteen rows of maxima the last point lays out and reads back. -/
theorem v956_eq : kernelRun0_C.sl.v956 (F := Ideal) c arg4 harg4 arg10 harg10 arg11 x2 xs1
    = rows16 (k0_pay18 (kernelRun0_C.sl.v888 (F := Ideal) c arg4 harg4 arg10 harg10 x2 xs1)) := by
  unfold kernelRun0_C.sl.v956
  refine (View.readCov_eq_canon' _ _ _).trans (funext fun j => ?_)
  refine (View.canon_apply_of_pieces (rows16 (k0_pay18 (kernelRun0_C.sl.v888 (F := Ideal) c arg4 harg4 arg10 harg10 x2 xs1))) _ ?_ _ ?_).trans (congrArg (rows16 _) (funext fun a => Fin.ext ?_))
  · unfold kernelRun0_C.sl.HS2_16 kernelRun0_C.sl.r_32 kernelRun0_C.sl.r_33
    unfold k0_pay19 k0_pay20 k0_pay21 k0_pay22 k0_pay23 k0_pay24 k0_pay25 k0_pay26
    generalize k0_pay18 (kernelRun0_C.sl.v888 (F := Ideal) c arg4 harg4 arg10 harg10 x2 xs1) = v
    repeat' first | omega | refine List.forall_mem_cons.2 ⟨fun j => Eq.symm (grpRow _ _ _ shapeCasts_S1x640_S1x640 ?_ ?_ j), ?_⟩
    exact fun p hp => absurd hp List.not_mem_nil
  · exact View.cover_of_tiledL (s := S16x640) (kernelRun0_C.sl.HS2_16 (F := Ideal) c arg4 harg4 arg10 harg10 x2 xs1) S1x640.size (by sl_kernel_rfl) _
  · match a with
    | ⟨0, _⟩ => show 0 + 1 * (j 0).val = (j 0).val; omega
    | ⟨1, _⟩ => show 0 + 1 * (j 1).val = (j 1).val; omega

/-- The last point leaves the maximum magnitude of every group. -/
theorem amax_C (hc0 : ¬cond0_0 i) (hc1 : cond0_1 i) : out0_C_4 (F := Ideal) c i arg2 harg2 arg3 harg3 arg4 harg4 arg5 harg5 arg6 harg6 arg7 harg7 arg8 harg8 arg9 harg9 arg10 harg10 arg11 harg11 hc0 hc1 x0 x1 x2 xo6 xs0 xs1 = amaxOf (accBlk x2 xs1) := by
  refine (View.read_writes_junk_eq_canon _ _).trans (funext fun y => View.canon_apply_of_pieces (amaxOf (accBlk x2 xs1)) _ ?_ y (cover0_C_4 c i arg2 harg2 arg3 harg3 arg4 harg4 arg5 harg5 arg6 harg6 arg7 harg7 arg8 harg8 arg9 harg9 arg10 harg10 arg11 harg11 hc0 hc1 x0 x1 x2 xo6 xs0 xs1 y))
  unfold kernelRun0_C
  dsimp only
  refine List.forall_mem_cons.2 ⟨fun j => ?_, fun p hp => absurd hp List.not_mem_nil⟩
  refine (congrFun ((congrArg k0_pay36 ((v956_eq c arg4 harg4 arg10 harg10 arg11 x2 xs1).trans (congrArg (fun v => rows16 (k0_pay18 v)) (v888_eq c i arg2 harg2 arg3 harg3 arg4 harg4 arg5 harg5 arg6 harg6 arg7 harg7 arg8 harg8 arg9 harg9 arg10 harg10 arg11 harg11 x0 x1 x2 xs0 xs1 xo6 hc0 hc1)))).trans (amax_rows _)) j).trans ?_
  refine congrArg (amaxOf (accBlk x2 xs1)) (funext fun a => Fin.ext ?_)
  match a with
  | ⟨0, _⟩ => show (j 0).val = 0 + 1 * (j 0).val; omega
  | ⟨1, _⟩ => show (j 1).val = 0 + 1 * (j 1).val; omega

end Points

end Cert.KernelIdeal.Value

end
-- ==== Proof.KLast.lean ====
/-
   The maximum magnitudes of the kernel: what the running magnitudes are after every point, and what the last point makes of them.
-/
module

public import proofs.«01_k».proof.Proof.KAmax
public import proofs.«01_k».proof.Proof.KBlock
public import Idealize.ShloMosaic.Lib.Pipeline.ValueKit
public import Idealize.ShloMosaic.Lib.Pipeline.ValueKit.Held

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The running magnitudes after the first point. -/
theorem accs_A (c : Dev nD) (t : Fin cfg0.N) (h0 : t.val % 40 = 0) : (outsAt0 m c t.val t.isLt).2.2.2.2.2 = accBlk (iblk m c 2 t) (fun _ => FloatOps.ofBits (F := Ideal) .bf16 0x0000#16) := by
  have h1 : ¬t.val % 40 = 39 := by omega
  rw [outsAt0_A m c t h0 h1]
  exact acc_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) ((hcond0_0 t).mpr h0) (fun h => h1 ((hcond0_1 t).mp h))

/-- The running magnitudes after a middle point. -/
theorem accs_B (c : Dev nD) (t : Fin cfg0.N) (h0 : ¬t.val % 40 = 0) (h1 : ¬t.val % 40 = 39) : (outsAt0 m c t.val t.isLt).2.2.2.2.2
    = accBlk (iblk m c 2 t) (outsAt0 m c (t.val - 1) (Nat.lt_of_le_of_lt (Nat.sub_le _ _) t.isLt)).2.2.2.2.2 := by
  rw [outsAt0_B m c t h0 h1]
  exact acc_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) (fun h => h1 ((hcond0_1 t).mp h))

/-- The maxima the last point leaves. -/
theorem amaxs_C (c : Dev nD) (t : Fin cfg0.N) (h0 : ¬t.val % 40 = 0) (h1 : t.val % 40 = 39) : (outsAt0 m c t.val t.isLt).2.1
    = amaxOf (accBlk (iblk m c 2 t) (outsAt0 m c (t.val - 1) (Nat.lt_of_le_of_lt (Nat.sub_le _ _) t.isLt)).2.2.2.2.2) := by
  rw [outsAt0_C m c t h0 h1]
  exact amax_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (outsAt0 m c (t.val - 1) (Nat.lt_of_le_of_lt (Nat.sub_le _ _) t.isLt)).2.2.2.1 (fun h => h0 ((hcond0_0 t).mp h)) ((hcond0_1 t).mpr h1)

/-- A magnitude is at most `u` only if `u` is not negative. -/
theorem abs_nonneg (a : EReal) : 0 ≤ max a (-a) := by
  rcases le_total 0 a with h | h
  · exact le_max_of_le_left h
  · exact le_max_of_le_right (by simpa using EReal.neg_le_neg_iff.2 h)

/-- The magnitude of an element of a point's block. -/
def mag (c : Dev nD) (s : Fin cfg0.N) (i : Fin 256) (n : Fin 10240) : EReal :=
  FloatOps.absf (F := Ideal) (φ := .bf16) ((iblk m c 2 s : Vec Ideal S1x256x10240 .bf16) (ix3 0 i n))

/-- When the new running magnitudes are at most `u`. -/
theorem accBlk_le (c : Dev nD) (t : Fin cfg0.N) (prev : Vec Ideal S16x10240 .bf16) (r : Fin 16) (n : Fin 10240) (u : EReal) :
    (accBlk (iblk m c 2 t) prev (ix2 r n) : EReal) ≤ u ↔ (prev (ix2 r n) : EReal) ≤ u ∧ ∀ q : Fin 16, mag m c t ⟨16 * q.val + r.val, by omega⟩ n ≤ u := by
  refine Iff.trans (max_le_iff (α := EReal)) (and_congr_right fun _ => ?_)
  exact iSup_le_iff

/-- When the running magnitudes after a point are at most `u`. -/
theorem accs_le (c : Dev nD) (r : Fin 16) (n : Fin 10240) (u : EReal) : ∀ (k : ℕ) (h : k < cfg0.N), k < 39 →
    (((outsAt0 m c k h).2.2.2.2.2 (ix2 r n) : EReal) ≤ u ↔ 0 ≤ u ∧ ∀ s : Fin cfg0.N, s.val ≤ k → ∀ q : Fin 16, mag m c s ⟨16 * q.val + r.val, by omega⟩ n ≤ u)
  | 0, h, _ => by
    have e := accs_A m c ⟨0, h⟩ rfl
    rw [show (outsAt0 m c 0 h).2.2.2.2.2 = _ from e, accBlk_le]
    refine and_congr (by rw [show (FloatOps.ofBits (F := Ideal) .bf16 0x0000#16 : EReal) = 0 from by show Ideal.ofBits .bf16 0x0000#16 = 0; simp [Ideal.ofBits, Ideal.ieee]]) ⟨fun H s hs => ?_, fun H => H ⟨0, h⟩ le_rfl⟩
    obtain rfl : s = ⟨0, h⟩ := Fin.ext (Nat.le_zero.1 hs)
    exact H
  | k + 1, h, hk => by
    have e := accs_B m c ⟨k + 1, h⟩ (by show ¬(k + 1) % 40 = 0; omega) (by show ¬(k + 1) % 40 = 39; omega)
    rw [show (outsAt0 m c (k + 1) h).2.2.2.2.2 = _ from e, accBlk_le]
    refine (and_congr_left' (accs_le c r n u k (Nat.lt_of_succ_lt h) (by omega))).trans ?_
    rw [and_assoc]
    refine and_congr_right fun _ => ⟨fun H s hs => ?_, fun H => ⟨fun s hs => H s (by omega), H ⟨k + 1, h⟩ le_rfl⟩⟩
    rcases Nat.lt_or_ge k s.val with h1 | h1
    · obtain rfl : s = ⟨k + 1, h⟩ := Fin.ext (by show s.val = k + 1; omega)
      exact H.2
    · exact H.1 s h1

/-- When the maximum magnitude of a group of columns, as the last point leaves it, is at most `u`. -/
theorem amaxs_le (c : Dev nD) (k : Fin 256) (u : EReal) (t : Fin cfg0.N) (ht : t.val = 39) :
    ((outsAt0 m c t.val t.isLt).2.1 (ix2 0 k) : EReal) ≤ u ↔ ∀ (s : Fin cfg0.N) (i : Fin 256) (w : Fin 40), mag m c s i ⟨40 * k.val + w.val, by omega⟩ ≤ u := by
  rw [amaxs_C m c t (by omega) (by omega)]
  refine Iff.trans (iSup_le_iff (α := EReal)) (Iff.trans (forall_congr' fun w => (iSup_le_iff (α := EReal)).trans (forall_congr' fun r =>
    (accBlk_le m c t _ r ⟨40 * k.val + w.val, by omega⟩ u).trans (and_congr_left' (accs_le m c r ⟨40 * k.val + w.val, by omega⟩ u (t.val - 1) _ (by omega))))) ⟨fun H s i w => ?_, fun H w r => ?_⟩)
  · have hi := i.isLt
    have hs : s.val < 40 := s.isLt
    have H' := H w ⟨i.val % 16, by omega⟩
    have ei : (⟨16 * (i.val / 16) + i.val % 16, by omega⟩ : Fin 256) = i := Fin.ext (by show 16 * (i.val / 16) + i.val % 16 = i.val; omega)
    rcases Nat.lt_or_ge (t.val - 1) s.val with h1 | h1
    · obtain rfl : s = t := Fin.ext (by omega)
      have := H'.2 ⟨i.val / 16, by omega⟩
      rwa [ei] at this
    · have := H'.1.2 s h1 ⟨i.val / 16, by omega⟩
      rwa [ei] at this
  · exact ⟨⟨(abs_nonneg _).trans (H t 0 w), fun s _ q => H s _ w⟩, fun q => H _ _ w⟩

/-- The block of `x` a point reads, as grid coordinates. -/
theorem index2 : ∀ t : Fin cfg0.N, win0_2.index t (0 : Fin 3) = t.val / 4 ∧ win0_2.index t (1 : Fin 3) = t.val % 4 ∧ win0_2.index t (2 : Fin 3) = 0 :=
  (by decide +kernel : ∀ t : Fin grid0.N, win0_2.index t (0 : Fin 3) = t.val / 4 ∧ win0_2.index t (1 : Fin 3) = t.val % 4 ∧ win0_2.index t (2 : Fin 3) = 0)

/-- The magnitude of an element of a point's block, as the magnitude of the element of `x` it is. -/
theorem mag_eq (c : Dev nD) (s : Fin cfg0.N) (i : Fin 256) (n : Fin 10240) (a : Fin 10) (b : Fin 1024) (ha : s.val / 4 = a.val) (hb : s.val % 4 * 256 + i.val = b.val) :
    mag m c s i n = FloatOps.absf (F := Ideal) (φ := .bf16) ((V m c main_arg0 : Vec Ideal S10x1024x10240 .bf16) (ix3 a b n)) := by
  obtain ⟨e0, e1, e2⟩ := index2 s
  show FloatOps.absf (F := Ideal) (φ := .bf16) (V m c main_arg0 (((cfg0.win 2).blk s).view.emb (ix3 0 i n))) = _
  refine congrArg (fun y => FloatOps.absf (F := Ideal) (φ := .bf16) ((V m c main_arg0 : Vec Ideal S10x1024x10240 .bf16) y)) (funext fun d => Fin.ext ?_)
  match d with
  | ⟨0, _⟩ => show win0_2.index s (0 : Fin 3) * 1 + 1 * 0 = a.val; omega
  | ⟨1, _⟩ => show win0_2.index s (1 : Fin 3) * 256 + 1 * i.val = b.val; omega
  | ⟨2, _⟩ => show win0_2.index s (2 : Fin 3) * 10240 + 1 * n.val = n.val; omega

/-- When the maximum magnitude of a group of columns, as the last point leaves it, is at most `u`: when that of every element of `x` in these columns is. -/
theorem amaxs_le_x (c : Dev nD) (k : Fin 256) (u : EReal) (t : Fin cfg0.N) (ht : t.val = 39) :
    ((outsAt0 m c t.val t.isLt).2.1 (ix2 0 k) : EReal) ≤ u ↔ ∀ (a : Fin 10) (b : Fin 1024) (w : Fin 40),
      (FloatOps.absf (F := Ideal) (φ := .bf16) ((V m c main_arg0 : Vec Ideal S10x1024x10240 .bf16) (ix3 a b ⟨40 * k.val + w.val, by omega⟩)) : EReal) ≤ u := by
  refine (amaxs_le m c k u t ht).trans ⟨fun H a b w => ?_, fun H s i w => ?_⟩
  · have ha := a.isLt
    have hb := b.isLt
    have := H ⟨4 * a.val + b.val / 256, by show 4 * a.val + b.val / 256 < 40; omega⟩ ⟨b.val % 256, by omega⟩ w
    rwa [mag_eq m c _ _ _ a b (by show (4 * a.val + b.val / 256) / 4 = a.val; omega) (by show (4 * a.val + b.val / 256) % 4 * 256 + b.val % 256 = b.val; omega)] at this
  · have hs : s.val < 40 := s.isLt
    have hi := i.isLt
    rw [mag_eq m c s i _ ⟨s.val / 4, by omega⟩ ⟨s.val % 4 * 256 + i.val, by omega⟩ rfl rfl]
    exact H _ _ w

/-- THE MAXIMUM MAGNITUDES after the run: what the last point leaves. -/
theorem final4 (c : Dev nD) (t : Fin cfg0.N) (ht : t.val = 39) : (dats m 0 c).arrAt 4 cfg0.N = (outsAt0 m c t.val t.isLt).2.1 := by
  obtain rfl : t = ⟨39, by decide⟩ := Fin.ext ht
  refine (dats m 0 c).arrAt_eq_of_after_last 4 ⟨39, by decide⟩ (by decide +kernel) _ fun y => ?_
  rw [after0_4]
  exact congrArg (outsAt0 m c 39 (by decide)).2.1 (funext fun a => Fin.ext (by match a with | ⟨0, _⟩ => rfl | ⟨1, _⟩ => rfl))

end Cert.KernelIdeal.Value

end
-- ==== Proof.Scale.lean ====
/-
   The scale of a magnitude: the binary search for the exponent and the logarithm give the same power of two.
-/
module

public import Idealize.ShloMosaic.Lib.Pointwise
public import Mathlib.Analysis.SpecialFunctions.Log.Basic
public import Mathlib.Analysis.SpecialFunctions.Pow.Real

@[expose] public section

noncomputable section

namespace Cert.Scale

open Idealize.ShloMosaic

/-- The number whose biased exponent is `n` and whose fraction is zero. -/
def pw (n : ℕ) : EReal := if n = 0 then 0 else if n = 255 then ⊤ else (((2 : ℝ) ^ ((n : ℤ) - 127) : ℝ) : EReal)

/-- These numbers grow with the exponent. -/
theorem pw_mono {i j : ℕ} (h : i ≤ j) (hj : j < 256) : pw i ≤ pw j := by
  unfold pw
  by_cases hj5 : j = 255
  · rw [if_neg (by omega : ¬j = 0), if_pos hj5]; exact le_top
  by_cases hi : i = 0
  · rw [if_pos hi]
    by_cases hj0 : j = 0
    · rw [if_pos hj0]
    · rw [if_neg hj0, if_neg hj5]
      exact EReal.coe_nonneg.2 (by positivity)
  · rw [if_neg hi, if_neg (by omega : ¬i = 255), if_neg (by omega : ¬j = 0), if_neg hj5]
    exact EReal.coe_le_coe_iff.2 (zpow_le_zpow_right₀ (by norm_num) (by omega))

/-- The word of an exponent shifted to its place denotes that number. -/
theorem word (n : ℕ) (hn : n < 256) : Ideal.ofBits .f32 (IntOp.shli .vector (BitVec.ofNat 32 n) 23#32) = pw n := by
  have H : ∀ n : Fin 256, ((IntOp.shli .vector (BitVec.ofNat 32 n.val) 23#32).extractLsb' 31 1 == 1#1) = false
      ∧ ((IntOp.shli .vector (BitVec.ofNat 32 n.val) 23#32).extractLsb' 23 8).toNat = n.val
      ∧ ((IntOp.shli .vector (BitVec.ofNat 32 n.val) 23#32).extractLsb' 0 23).toNat = 0 := by decide +kernel
  obtain ⟨h0, h1, h2⟩ := H ⟨n, hn⟩
  show Ideal.ieee 8 23 (IntOp.shli .vector (BitVec.ofNat 32 n) 23#32) = pw n
  unfold Ideal.ieee pw
  simp only [show 8 + 23 = 31 from rfl, h0, h1, h2]
  by_cases hn5 : n = 255
  · subst hn5; simp
  by_cases hn0 : n = 0
  · subst hn0; simp
  · rw [if_neg (by omega), if_neg hn0, if_neg hn0, if_neg hn5]
    norm_num
    rw [show (8388608 : ℝ) = (2 : ℝ) ^ (23 : ℤ) by norm_num, ← EReal.coe_mul, ← zpow_add₀ (by norm_num), show (23 : ℤ) + ((n : ℤ) - 127 - 23) = (n : ℤ) - 127 by ring]

/-- A step of the search: the trial exponent is taken if its power of two is at most the magnitude. -/
def stepW (v : EReal) (p b : BitVec 32) : BitVec 32 :=
  Scalar.select (FloatOps.cmpf (F := Ideal) (φ := .f32) .oge v (FloatOps.ofBits (F := Ideal) .f32 (IntOp.shli .vector (IntOp.addi p b) 23#32))) (IntOp.addi p b) p

/-- What the search knows: the exponent sought is one of the `2 ^ k` from `n` on. -/
def Inv (v : EReal) (w : BitVec 32) (k : ℕ) : Prop :=
  ∃ n : ℕ, w = BitVec.ofNat 32 n ∧ n + 2 ^ k ≤ 256 ∧ pw n ≤ v ∧ ∀ j : ℕ, j < 256 → n + 2 ^ k ≤ j → v < pw j

/-- A step of the search halves the exponents left. -/
theorem inv_step {v : EReal} {w : BitVec 32} (k : ℕ) (b : BitVec 32) (hb : b = BitVec.ofNat 32 (2 ^ k)) (h : Inv v w (k + 1)) : Inv v (stepW v w b) k := by
  subst hb
  obtain ⟨n, rfl, hn, hl, hu⟩ := h
  have hk : 2 ^ (k + 1) = 2 ^ k + 2 ^ k := by omega
  have hp : 0 < 2 ^ k := by positivity
  have ha : IntOp.addi (BitVec.ofNat 32 n) (BitVec.ofNat 32 (2 ^ k)) = BitVec.ofNat 32 (n + 2 ^ k) := (BitVec.ofNat_add _ _).symm
  unfold stepW
  rw [ha]
  show Inv v (Scalar.select (BitVec.ofBool (decide (Ideal.ofBits .f32 (IntOp.shli .vector (BitVec.ofNat 32 (n + 2 ^ k)) 23#32) ≤ v))) _ _) k
  rw [word _ (by omega)]
  by_cases hv : pw (n + 2 ^ k) ≤ v
  · rw [decide_eq_true hv]
    exact ⟨n + 2 ^ k, rfl, by omega, hv, fun j hj h => hu j hj (by omega)⟩
  · rw [decide_eq_false hv]
    exact ⟨n, rfl, by omega, hl, fun j hj h => lt_of_lt_of_le (not_le.1 hv) (pw_mono h hj)⟩

/-- The search begins with all exponents. -/
theorem inv_zero {v : EReal} (h : 0 ≤ v) : Inv v 0#32 8 := ⟨0, rfl, by norm_num, by simpa [pw] using h, fun j hj h => by omega⟩

/-- The whole search, from its eight steps. -/
theorem inv_search {v : EReal} (h : 0 ≤ v) :
    Inv v (stepW v (stepW v (stepW v (stepW v (stepW v (stepW v (stepW v (stepW v 0#32 128#32) 64#32) 32#32) 16#32) 8#32) 4#32) 2#32) 1#32) 0 :=
  inv_step 0 1#32 (by decide) (inv_step 1 2#32 (by decide) (inv_step 2 4#32 (by decide) (inv_step 3 8#32 (by decide) (inv_step 4 16#32 (by decide)
    (inv_step 5 32#32 (by decide) (inv_step 6 64#32 (by decide) (inv_step 7 128#32 (by decide) (inv_zero h))))))))

/-- The scale the exponent gives: the next power of two, and one at the ends. -/
def scaleK (a : EReal) (w : BitVec 32) : EReal :=
  Scalar.select (IntOp.andi (IntOp.andi (IntOp.cmpi .sgt w 0#32) (IntOp.cmpi .slt w 255#32)) (FloatOps.cmpf (F := Ideal) (φ := .f32) .one a (FloatOps.ofBits (F := Ideal) .f32 0x00000000#32)))
    (FloatOps.ofBits (F := Ideal) .f32 (IntOp.shli .vector (IntOp.addi w 1#32) 23#32)) (FloatOps.ofBits (F := Ideal) .f32 0x3F800000#32)

/-- The exponent the logarithm gives. -/
def expR (v : EReal) : EReal :=
  FloatOps.addf (F := Ideal) (φ := .f32) (FloatOps.floor (F := Ideal) (φ := .f32) (FloatOps.divf (F := Ideal) (φ := .f32) (FloatOps.log (F := Ideal) (φ := .f32) v) ((Real.log 2 : ℝ) : EReal))) (FloatOps.ofBits (F := Ideal) .f32 0x3F800000#32)

/-- The scale the logarithm gives. -/
def scaleR (v : EReal) : EReal :=
  Scalar.select (IntOp.ori (FloatOps.cmpf (F := Ideal) (φ := .f32) .olt v (FloatOps.ofBits (F := Ideal) .f32 0x00800000#32)) (FloatOps.cmpf (F := Ideal) (φ := .f32) .oeq v (FloatOps.ofBits (F := Ideal) .f32 0x7F800000#32)))
    (FloatOps.ofBits (F := Ideal) .f32 0x3F800000#32)
    (Scalar.select (FloatOps.cmpf (F := Ideal) (φ := .f32) .ogt (expR v) (FloatOps.ofBits (F := Ideal) .f32 0x42FE0000#32)) (FloatOps.ofBits (F := Ideal) .f32 0x7F800000#32) (FloatOps.exp2 (F := Ideal) (φ := .f32) (expR v)))

/-- One. -/
theorem c_one : (FloatOps.ofBits (F := Ideal) .f32 0x3F800000#32 : EReal) = ((1 : ℝ) : EReal) := by
  show Ideal.ofBits .f32 0x3F800000#32 = _; simp [Ideal.ofBits, Ideal.ieee]; rw [← EReal.coe_mul]; norm_num
/-- The number 127. -/
theorem c_127 : (FloatOps.ofBits (F := Ideal) .f32 0x42FE0000#32 : EReal) = ((127 : ℝ) : EReal) := by
  show Ideal.ofBits .f32 0x42FE0000#32 = _; simp [Ideal.ofBits, Ideal.ieee]; rw [← EReal.coe_mul]; norm_num
/-- Infinity. -/
theorem c_inf : (FloatOps.ofBits (F := Ideal) .f32 0x7F800000#32 : EReal) = ⊤ := by
  show Ideal.ofBits .f32 0x7F800000#32 = _; simp [Ideal.ofBits, Ideal.ieee]
/-- Zero. -/
theorem c_zero : (FloatOps.ofBits (F := Ideal) .f32 0x00000000#32 : EReal) = 0 := by
  show Ideal.ofBits .f32 0x00000000#32 = _; simp [Ideal.ofBits, Ideal.ieee]
/-- The smallest normal number. -/
theorem c_min : (FloatOps.ofBits (F := Ideal) .f32 0x00800000#32 : EReal) = pw 1 := word 1 (by norm_num)
/-- The reciprocal of 448 is a positive number. -/
theorem c_max : ∃ r : ℝ, 0 < r ∧ (FloatOps.ofBits (F := Ideal) .f32 0x3B124925#32 : EReal) = (r : EReal) := by
  refine ⟨9586981 * 2 ^ (-32 : ℤ), by positivity, ?_⟩
  show Ideal.ofBits .f32 0x3B124925#32 = _; simp [Ideal.ofBits, Ideal.ieee]

/-- The floor of the logarithm to base two, for a number between two powers of two. -/
theorem floor_log {r : ℝ} {e : ℤ} (h : (2 : ℝ) ^ e ≤ r) : e ≤ ⌊Real.log r * (Real.log 2)⁻¹⌋ := by
  have h2 : 0 < Real.log 2 := Real.log_pos (by norm_num)
  have := Real.log_le_log (by positivity) h
  rw [Real.log_zpow] at this
  rw [Int.le_floor, ← div_eq_mul_inv, le_div_iff₀ h2]
  exact this

/-- The same from above. -/
theorem floor_log_lt {r : ℝ} {e : ℤ} (h0 : 0 < r) (h : r < (2 : ℝ) ^ e) : ⌊Real.log r * (Real.log 2)⁻¹⌋ < e := by
  have h2 : 0 < Real.log 2 := Real.log_pos (by norm_num)
  have := Real.log_lt_log h0 h
  rw [Real.log_zpow] at this
  rw [Int.floor_lt, ← div_eq_mul_inv, div_lt_iff₀ h2]
  exact this

/-- The exponent the logarithm of a positive number gives. -/
theorem expR_coe {r : ℝ} (h0 : 0 < r) : expR (r : EReal) = (((⌊Real.log r * (Real.log 2)⁻¹⌋ + 1 : ℤ) : ℝ) : EReal) := by
  have h2 : 0 < Real.log 2 := Real.log_pos (by norm_num)
  unfold expR
  rw [c_one]
  show Ideal.liftRound Int.floor (Ideal.div (if r ≤ 0 then ⊥ else (Real.log r : EReal)) (Real.log 2 : ℝ)) + ((1 : ℝ) : EReal) = _
  rw [if_neg (not_le.2 h0), Ideal.div, if_neg (by rw [EReal.coe_eq_zero]; exact h2.ne'), ← EReal.coe_inv, ← EReal.coe_mul]
  show ((⌊Real.log r * (Real.log 2)⁻¹⌋ : ℝ) : EReal) + ((1 : ℝ) : EReal) = _
  rw [← EReal.coe_add]
  push_cast
  rfl

/-- Whether an exponent word is that of a normal number. -/
theorem normal (n : ℕ) (hn : n < 256) : IntOp.andi (IntOp.cmpi .sgt (BitVec.ofNat 32 n) 0#32) (IntOp.cmpi .slt (BitVec.ofNat 32 n) 255#32) = BitVec.ofBool (decide (0 < n ∧ n < 255)) := by
  have H : ∀ n : Fin 256, IntOp.andi (IntOp.cmpi .sgt (BitVec.ofNat 32 n.val) 0#32) (IntOp.cmpi .slt (BitVec.ofNat 32 n.val) 255#32) = BitVec.ofBool (decide (0 < n.val ∧ n.val < 255)) := by decide +kernel
  exact H ⟨n, hn⟩

/-- A selection by two conditions that must both hold. -/
theorem select_and {α : Type} (P Q : Prop) [Decidable P] [Decidable Q] (x y : α) :
    Scalar.select (IntOp.andi (BitVec.ofBool (decide P)) (BitVec.ofBool (decide Q))) x y = if P ∧ Q then x else y := by
  by_cases hP : P <;> by_cases hQ : Q <;> simp only [hP, hQ, decide_true, decide_false] <;> rfl

/-- A selection by two conditions one of which must hold. -/
theorem select_or {α : Type} (P Q : Prop) [Decidable P] [Decidable Q] (x y : α) :
    Scalar.select (IntOp.ori (BitVec.ofBool (decide P)) (BitVec.ofBool (decide Q))) x y = if P ∨ Q then x else y := by
  by_cases hP : P <;> by_cases hQ : Q <;> simp only [hP, hQ, decide_true, decide_false] <;> rfl

/-- A selection by one condition. -/
theorem select_one {α : Type} (P : Prop) [Decidable P] (x y : α) : Scalar.select (BitVec.ofBool (decide P)) x y = if P then x else y := by
  by_cases hP : P <;> simp only [hP, decide_true, decide_false] <;> rfl

/-- The scale the exponent word `n` gives. -/
theorem scaleK_eq (a : EReal) (n : ℕ) (hn : n < 256) : scaleK a (BitVec.ofNat 32 n) = if 0 < n ∧ n < 255 ∧ a ≠ 0 then pw (n + 1) else ((1 : ℝ) : EReal) := by
  unfold scaleK
  rw [normal n hn, c_zero, c_one]
  refine (select_and (0 < n ∧ n < 255) (a ≠ 0) _ _).trans ?_
  refine if_ctx_congr and_assoc (fun h => ?_) fun _ => rfl
  show Ideal.ofBits .f32 (IntOp.shli .vector (BitVec.ofNat 32 n + BitVec.ofNat 32 1) 23#32) = _
  rw [← BitVec.ofNat_add]
  exact word _ (by omega)

/-- The scale the logarithm gives, by cases. -/
theorem scaleR_eq (v : EReal) : scaleR v = if v < pw 1 ∨ v = ⊤ then ((1 : ℝ) : EReal) else if ((127 : ℝ) : EReal) < expR v then ⊤ else Ideal.exp2 (expR v) := by
  unfold scaleR
  rw [c_inf, c_min, c_127, c_one]
  refine (select_or (v < pw 1) (v = ⊤) _ _).trans (if_ctx_congr Iff.rfl (fun _ => rfl) fun _ => ?_)
  exact select_one (((127 : ℝ) : EReal) < expR v) _ _

/-- The two scales of a magnitude are the same. -/
theorem scale_eq {a v : EReal} {w : BitVec 32} (hw : Inv v w 0) (ha : a = 0 → v ≤ 0) : scaleK a w = scaleR v := by
  obtain ⟨n, rfl, hn, hl, hu⟩ := hw
  have hn' : n < 256 := by omega
  rw [scaleK_eq a n hn', scaleR_eq]
  by_cases h0 : n = 0
  · rw [if_neg (by omega), if_pos (.inl (hu 1 (by norm_num) (by omega)))]
  by_cases h5 : n = 255
  · have hv : v = ⊤ := top_le_iff.1 (by simpa [pw, h5] using hl)
    rw [if_neg (by omega), if_pos (.inr hv)]
  have h1 : pw 1 ≤ v := (pw_mono (by omega) hn').trans hl
  have hp : (0 : EReal) < pw 1 := by
    rw [pw, if_neg (by norm_num), if_neg (by norm_num)]
    exact EReal.coe_pos.2 (by positivity)
  have hv0 : 0 < v := hp.trans_le h1
  have hvt : v < ⊤ := (hu 255 (by norm_num) (by omega)).trans_le le_top
  obtain ⟨r, rfl⟩ : ∃ r : ℝ, (r : EReal) = v := ⟨v.toReal, EReal.coe_toReal hvt.ne (ne_bot_of_gt hv0)⟩
  have hr : 0 < r := EReal.coe_pos.1 hv0
  have hlr : (2 : ℝ) ^ ((n : ℤ) - 127) ≤ r := by
    rw [pw, if_neg h0, if_neg h5] at hl
    exact EReal.coe_le_coe_iff.1 hl
  have hf := floor_log hlr
  rw [if_pos ⟨by omega, by omega, fun e => absurd (ha e) (not_le.2 hv0)⟩, if_neg (not_or.2 ⟨not_lt.2 h1, hvt.ne⟩), expR_coe hr]
  by_cases h4 : n = 254
  · rw [if_pos (EReal.coe_lt_coe_iff.2 (by exact_mod_cast (by omega : (127 : ℤ) < ⌊Real.log r * (Real.log 2)⁻¹⌋ + 1))), h4, pw, if_neg (by norm_num), if_pos (by norm_num)]
  · have hur : r < (2 : ℝ) ^ ((n : ℤ) - 126) := by
      have := hu (n + 1) (by omega) (by omega)
      rw [pw, if_neg (by omega), if_neg (by omega)] at this
      refine (EReal.coe_lt_coe_iff.1 this).trans_eq ?_
      congr 1
      push_cast
      ring
    have hg := floor_log_lt hr hur
    have he : ⌊Real.log r * (Real.log 2)⁻¹⌋ + 1 = (n : ℤ) - 126 := by omega
    rw [he, if_neg (by rw [EReal.coe_lt_coe_iff, not_lt]; exact_mod_cast (by omega : (n : ℤ) - 126 ≤ 127))]
    show pw (n + 1) = ((Real.rpow 2 (((n : ℤ) - 126 : ℤ) : ℝ) : ℝ) : EReal)
    rw [pw, if_neg (by omega), if_neg (by omega)]
    refine congrArg _ (Eq.trans ?_ (Real.rpow_intCast 2 _).symm)
    congr 1
    push_cast
    ring

/-- The scale of a maximum magnitude and the largest one before. -/
def scaleOf (a h : EReal) : EReal :=
  scaleR (FloatOps.mulf (F := Ideal) (φ := .f32) (max a h) (FloatOps.ofBits (F := Ideal) .f32 0x3B124925#32))

/-- Maxima that are not negative are not negative divided by 448, and a maximum of zero gives zero. -/
theorem mul_max {a : EReal} (ha : 0 ≤ a) :
    (0 : EReal) ≤ FloatOps.mulf (F := Ideal) (φ := .f32) a (FloatOps.ofBits (F := Ideal) .f32 0x3B124925#32)
      ∧ (a = 0 → (FloatOps.mulf (F := Ideal) (φ := .f32) a (FloatOps.ofBits (F := Ideal) .f32 0x3B124925#32) : EReal) ≤ 0) := by
  obtain ⟨r, hr, e⟩ := c_max
  rw [e]
  refine ⟨EReal.mul_nonneg ha (EReal.coe_nonneg.2 hr.le), fun h => le_of_eq ?_⟩
  subst h
  exact zero_mul _

/-- The magnitude of a number that is not negative. -/
theorem abs_eq {v : EReal} (h : 0 ≤ v) : (FloatOps.absf (F := Ideal) (φ := .f32) v : EReal) = v :=
  max_eq_left ((EReal.neg_le_neg_iff.2 h).trans (by simpa using h))

end Cert.Scale

end
-- ==== Proof.KScale.lean ====
/-
   The new scales of the kernel: the last point takes the maxima over the history, searches the exponent and stores the power of two.
-/
module

public import proofs.«01_k».proof.Proof.KLast
public import proofs.«01_k».proof.Proof.Scale

@[expose] public section

set_option maxRecDepth 16384

noncomputable section

namespace Cert.KernelIdeal.Value

open Cert.KernelIdeal Cert.KernelIdeal.Gen Idealize.ShloMosaic Idealize.ShloMosaic.TcCoe Idealize.SL.Sem

open Cert.Scale (stepW scaleK)

/-- The last seven steps of the search. -/
theorem pay41_apply (v : Vec Ideal S1x256 .f32) (p q : IVec S1x256 32) (y : S1x256.Idx) (hq : q y = IntOp.addi (p y) 64#32) :
    k0_pay41 (F := Ideal) v p q y = stepW (v y) (stepW (v y) (stepW (v y) (stepW (v y) (stepW (v y) (stepW (v y) (stepW (v y) (p y) 64#32) 32#32) 16#32) 8#32) 4#32) 2#32) 1#32 := by
  have h0 : stepW (v y) (p y) 64#32 = Scalar.select (FloatOps.cmpf (F := Ideal) (φ := .f32) .oge (v y) (FloatOps.ofBits (F := Ideal) .f32 (IntOp.shli .vector (q y) 23#32))) (q y) (p y) := by
    rw [hq]; rfl
  rw [h0]
  rfl

/-- The scale of the last point, from the exponent word. -/
theorem pay2_apply (a : Vec Ideal S1x256 .f32) (w : IVec S1x256 32) (y : S1x256.Idx) : k0_pay2 (F := Ideal) a w y = scaleK (a y) (w y) := rfl

/-- The exponent word the search finds knows the magnitude's exponent. -/
theorem search (a : Vec Ideal S16x640 .f32) (b : Vec Ideal S1016x256 .f32) (c : Vec Ideal S7x256 .f32) (y : S1x256.Idx) (h : 0 ≤ (k0_pay38 a b c y : EReal)) :
    Cert.Scale.Inv (k0_pay38 a b c y) (k0_pay41 (k0_pay38 a b c) (k0_pay39 a b c) (k0_pay40 a b c) y) 0 := by
  rw [pay41_apply (k0_pay38 a b c) (k0_pay39 a b c) (k0_pay40 a b c) y (by unfold k0_pay40; rfl)]
  have h7 : k0_pay39 a b c y = stepW (k0_pay38 a b c y) 0#32 128#32 := by
    unfold k0_pay39
    generalize k0_pay38 a b c = v
    rfl
  rw [h7]
  exact Cert.Scale.inv_search h

/-- The last point's maxima, of this step and of the history. -/
theorem pay37_apply (a : Vec Ideal S16x640 .f32) (b : Vec Ideal S1016x256 .f32) (c : Vec Ideal S7x256 .f32) (k : Fin 256) :
    k0_pay37 a b c (ix2 0 k) = (max (k0_pay36 a (ix2 0 k)) (max (⨆ i : Fin 1016, b (ix2 i k)) (⨆ i : Fin 7, c (ix2 i k))) : EReal) := by
  have hbot : (FloatOps.ofBits (F := Ideal) .f32 0xFF800000#32 : EReal) = ⊥ := by
    show Ideal.ofBits .f32 0xFF800000#32 = ⊥
    simp [Ideal.ofBits, Ideal.ieee]
  have hk : ∀ v : Vec Ideal S256 .f32, shapeCast S1x256 v shapeCasts_S256_S1x256 (ix2 0 k) = v (ix1 k) := fun v => by
    refine shapeCast_apply _ _ _ _ ?_
    rw [Shape.rowMajor_val_one, Shape.rowMajor_val_two]
    show k.val = 0 * 256 + k.val
    omega
  unfold k0_pay37
  refine congrArg₂ (max (α := EReal)) rfl (congrArg₂ (max (α := EReal)) ((hk _).trans ?_) ((hk _).trans ?_))
  · refine (Ideal.multiReduction_maximumf_single _ _ _ _ _ _).trans ((fold_max_bot _ _ hbot).trans (iSup_congr fun r => ?_))
    exact congrArg b (funext fun d => Fin.ext (by match d with | ⟨0, _⟩ => rfl | ⟨1, _⟩ => rfl))
  · refine (Ideal.multiReduction_maximumf_single _ _ _ _ _ _).trans ((fold_max_bot _ _ hbot).trans (iSup_congr fun r => ?_))
    exact congrArg c (funext fun d => Fin.ext (by match d with | ⟨0, _⟩ => rfl | ⟨1, _⟩ => rfl))

/-- The largest of a column of the history without its last row. -/
def histMax (h : Vec Ideal S1024x256 .f32) (k : Fin 256) : EReal := ⨆ i : Fin 1023, h (ix2 ⟨i.val, by omega⟩ k)

/-- The last point's maximum, with the history in its two parts put together. -/
theorem pay37_hist (a : Vec Ideal S16x640 .f32) (b : Vec Ideal S1016x256 .f32) (c : Vec Ideal S7x256 .f32) (h : Vec Ideal S1024x256 .f32) (k : Fin 256)
    (hb : ∀ i : Fin 1016, b (ix2 i k) = h (ix2 ⟨i.val, by omega⟩ k)) (hc : ∀ i : Fin 7, c (ix2 i k) = h (ix2 ⟨1016 + i.val, by omega⟩ k)) :
    k0_pay37 a b c (ix2 0 k) = (max (k0_pay36 a (ix2 0 k)) (histMax h k) : EReal) := by
  rw [pay37_apply]
  refine congrArg₂ (max (α := EReal)) rfl (eq_of_forall_ge_iff fun u => ?_)
  unfold histMax
  rw [max_le_iff, iSup_le_iff, iSup_le_iff, iSup_le_iff]
  refine ⟨fun H i => ?_, fun H => ⟨fun i => ?_, fun i => ?_⟩⟩
  · rcases Nat.lt_or_ge i.val 1016 with h1 | h1
    · have := H.1 ⟨i.val, h1⟩
      rwa [hb] at this
    · have := H.2 ⟨i.val - 1016, by omega⟩
      rw [hc] at this
      rwa [show (⟨1016 + (i.val - 1016), by omega⟩ : Fin 1024) = ⟨i.val, by omega⟩ from Fin.ext (by show 1016 + (i.val - 1016) = i.val; omega)] at this
  · rw [hb]; exact H ⟨i.val, by omega⟩
  · rw [hc]; exact H ⟨1016 + i.val, by omega⟩

/-- The scale the last point stores. -/
theorem last_scale (a : Vec Ideal S16x640 .f32) (b : Vec Ideal S1016x256 .f32) (c : Vec Ideal S7x256 .f32) (h : Vec Ideal S1024x256 .f32) (k : Fin 256)
    (hb : ∀ i : Fin 1016, b (ix2 i k) = h (ix2 ⟨i.val, by omega⟩ k)) (hc : ∀ i : Fin 7, c (ix2 i k) = h (ix2 ⟨1016 + i.val, by omega⟩ k))
    (h0 : 0 ≤ (k0_pay36 a (ix2 0 k) : EReal)) :
    k0_pay2 (k0_pay37 a b c) (k0_pay41 (k0_pay38 a b c) (k0_pay39 a b c) (k0_pay40 a b c)) (ix2 0 k) = Cert.Scale.scaleOf (k0_pay36 a (ix2 0 k)) (histMax h k) := by
  have e := pay37_hist a b c h k hb hc
  have hm : 0 ≤ (k0_pay37 a b c (ix2 0 k) : EReal) := by rw [e]; exact le_max_of_le_left h0
  obtain ⟨m0, m1⟩ := Cert.Scale.mul_max hm
  have ev : k0_pay38 a b c (ix2 0 k) = FloatOps.mulf (F := Ideal) (φ := .f32) (k0_pay37 a b c (ix2 0 k)) (FloatOps.ofBits (F := Ideal) .f32 0x3B124925#32) := by
    unfold k0_pay38
    exact Cert.Scale.abs_eq m0
  have hs := search a b c (ix2 0 k) (by rw [ev]; exact m0)
  rw [ev] at hs
  rw [pay2_apply, Cert.Scale.scale_eq hs m1, e]
  rfl

/-- The maximum magnitudes are not negative. -/
theorem amaxOf_nonneg (x : Vec Ideal S1x256x10240 .bf16) (p : Vec Ideal S16x10240 .bf16) (y : S1x256.Idx) : 0 ≤ (amaxOf (accBlk x p) y : EReal) :=
  le_iSup_of_le (0 : Fin 40) (le_iSup_of_le (0 : Fin 16) (le_max_of_le_right (le_iSup_of_le (0 : Fin 16) (abs_nonneg _))))

/-- The row of new scales. -/
def newScale (a : Vec Ideal S1x256 .f32) (h : Vec Ideal S1024x256 .f32) : Vec Ideal S1x256 .f32 := fun y => Cert.Scale.scaleOf (a y) (histMax h (y 1))

section Points

variable (c : Dev nD) (i : grid0.Coords) (arg2 : Memref sig .tc .vmem S1x256 .f32) (harg2 : arg2.IsWhole) (arg3 : Memref sig .tc .vmem S1024x256 .f32) (harg3 : arg3.IsWhole) (arg4 : Memref sig .tc .vmem S1x256x10240 .bf16) (harg4 : arg4.IsWhole) (arg5 : Memref sig .tc .vmem S1x256x10240 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x10240 .f32) (harg9 : arg9.IsWhole) (arg10 : Memref sig .tc .vmem S16x10240 .bf16) (harg10 : arg10.IsWhole) (arg11 : Memref sig .tc .vmem S16x640 .f32) (harg11 : arg11.IsWhole)
variable (x0 : Vec Ideal S1x256 .f32) (x1 : Vec Ideal S1024x256 .f32) (x2 : Vec Ideal S1x256x10240 .bf16) (xs0 : Vec Ideal S1x10240 .f32) (xs1 : Vec Ideal S16x10240 .bf16) (xo6 : Vec Ideal S1x256 .f32)

/-- The last point leaves the new scale of every group. -/
theorem scale_C (hc0 : ¬cond0_0 i) (hc1 : cond0_1 i) : out0_C_5 (F := Ideal) c i arg2 harg2 arg3 harg3 arg4 harg4 arg5 harg5 arg6 harg6 arg7 harg7 arg8 harg8 arg9 harg9 arg10 harg10 arg11 harg11 hc0 hc1 x0 x1 x2 xo6 xs0 xs1 = newScale (amaxOf (accBlk x2 xs1)) x1 := by
  refine (View.read_writes_junk_eq_canon _ _).trans (funext fun y => View.canon_apply_of_pieces (newScale (amaxOf (accBlk x2 xs1)) x1) _ ?_ y (cover0_C_5 c i arg2 harg2 arg3 harg3 arg4 harg4 arg5 harg5 arg6 harg6 arg7 harg7 arg8 harg8 arg9 harg9 arg10 harg10 arg11 harg11 hc0 hc1 x0 x1 x2 xo6 xs0 xs1 y))
  unfold kernelRun0_C
  dsimp only
  refine List.forall_mem_cons.2 ⟨fun j => ?_, fun p hp => absurd hp List.not_mem_nil⟩
  dsimp only
  have e36 : k0_pay36 (kernelRun0_C.sl.v956 (F := Ideal) c arg4 harg4 arg10 harg10 arg11 x2 xs1) = amaxOf (accBlk x2 xs1) :=
    (congrArg k0_pay36 ((v956_eq c arg4 harg4 arg10 harg10 arg11 x2 xs1).trans (congrArg (fun v => rows16 (k0_pay18 v)) (v888_eq c i arg2 harg2 arg3 harg3 arg4 harg4 arg5 harg5 arg6 harg6 arg7 harg7 arg8 harg8 arg9 harg9 arg10 harg10 arg11 harg11 x0 x1 x2 xs0 xs1 xo6 hc0 hc1)))).trans (amax_rows _)
  unfold kernelRun0_C.sl.r_34 kernelRun0_C.sl.r_38 kernelRun0_C.sl.r_37 kernelRun0_C.sl.r_36 kernelRun0_C.sl.r_35
  generalize kernelRun0_C.sl.v956 (F := Ideal) c arg4 harg4 arg10 harg10 arg11 x2 xs1 = v at e36 ⊢
  obtain ⟨k, rfl⟩ : ∃ k : Fin 256, j = ix2 0 k :=
    ⟨j 1, funext fun a => by match a with | ⟨0, _⟩ => exact Subsingleton.elim (α := Fin 1) _ _ | ⟨1, _⟩ => rfl⟩
  refine (last_scale v _ _ x1 k (fun i => ?_) (fun i => ?_) (by rw [e36]; exact amaxOf_nonneg _ _ _)).trans ?_
  · refine (harg3.readAt_unread x1 (Rect.unit (s := S1024x256) ![0, 0] S1016x256.size inb_S1024x256_S1016x256_0_0).toLoadRect (ix2 i k)).trans (congrArg x1 (funext fun a => Fin.ext ?_))
    match a with
    | ⟨0, _⟩ => show 0 + 1 * i.val = i.val; omega
    | ⟨1, _⟩ => show 0 + 1 * k.val = k.val; omega
  · refine (harg3.readAt_unread x1 (Rect.unit (s := S1024x256) ![1016, 0] S7x256.size inb_S1024x256_S7x256_1016_0).toLoadRect (ix2 i k)).trans (congrArg x1 (funext fun a => Fin.ext ?_))
    match a with
    | ⟨0, _⟩ => show 1016 + 1 * i.val = 1016 + i.val; omega
    | ⟨1, _⟩ => show 0 + 1 * k.val = k.val; omega
  · rw [e36]
    show newScale (amaxOf (accBlk x2 xs1)) x1 (ix2 0 k) = _
    refine congrArg (newScale (amaxOf (accBlk x2 xs1)) x1) (funext fun a => Fin.ext ?_)
    match a with
    | ⟨0, _⟩ => show 0 = 0 + 1 * 0; rfl
    | ⟨1, _⟩ => show k.val = 0 + 1 * k.val; omega

end Points

variable (m : (ℓ : Loc nD τ sig) → Buf (Elt Ideal) ℓ)

/-- Every point's block of the history is the whole history. -/
theorem iblk1_at (c : Dev nD) (t : Fin cfg0.N) : iblk m c 1 t = V m c main_arg1 := by
  have hz : ∀ t : Fin grid0.N, win0_1.index t (0 : Fin 2) = 0 ∧ win0_1.index t (1 : Fin 2) = 0 := by decide +kernel
  obtain ⟨e0, e1⟩ := hz t
  refine funext fun j => ?_
  show V m c main_arg1 (((cfg0.win 1).blk t).view.emb j) = V m c main_arg1 j
  congr 1
  refine funext fun a => Fin.ext ?_
  match a with
  | ⟨0, _⟩ => show win0_1.index t (0 : Fin 2) * 1024 + 1 * (j 0).val = (j 0).val; omega
  | ⟨1, _⟩ => show win0_1.index t (1 : Fin 2) * 256 + 1 * (j 1).val = (j 1).val; omega

/-- The new scales the last point leaves, from the maximum magnitudes it leaves and the history. -/
theorem scales_C (c : Dev nD) (t : Fin cfg0.N) (h0 : ¬t.val % 40 = 0) (h1 : t.val % 40 = 39) : (outsAt0 m c t.val t.isLt).2.2.1
    = newScale (outsAt0 m c t.val t.isLt).2.1 (V m c main_arg1) := by
  rw [amaxs_C m c t h0 h1, ← iblk1_at m c t, outsAt0_C m c t h0 h1]
  exact scale_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (outsAt0 m c (t.val - 1) (Nat.lt_of_le_of_lt (Nat.sub_le _ _) t.isLt)).2.2.2.1 (fun h => h0 ((hcond0_0 t).mp h)) ((hcond0_1 t).mpr h1)

/-- THE NEW SCALES after the run: what the last point leaves. -/
theorem final5 (c : Dev nD) (t : Fin cfg0.N) (ht : t.val = 39) : (dats m 0 c).arrAt 5 cfg0.N = (outsAt0 m c t.val t.isLt).2.2.1 := by
  obtain rfl : t = ⟨39, by decide⟩ := Fin.ext ht
  refine (dats m 0 c).arrAt_eq_of_after_last 5 ⟨39, by decide⟩ (by decide +kernel) _ fun y => ?_
  rw [after0_5]
  exact congrArg (outsAt0 m c 39 (by decide)).2.2.1 (funext fun a => Fin.ext (by match a with | ⟨0, _⟩ => rfl | ⟨1, _⟩ => rfl))

end Cert.KernelIdeal.Value

end
-- ==== Proof.RValue.lean ====
/- What the reference leaves in its four result arrays. The reference is one pallas_call without a grid, so each window's
   block is its whole array, and each result array after the run is the body's value of the argument arrays (`G3` the
   column maxima, `G4` the new scale, `G5` the codes, `G6` the scale used). `run` states this of the whole program. -/
module

public import proofs.«01_k».proof.Proof.Gen.ReferenceIdeal.Frame
public import Idealize.ShloMosaic.Lib.Pipeline.Value

@[expose] public section

noncomputable section

namespace Cert.ReferenceIdeal.Value

open Cert.ReferenceIdeal Cert.ReferenceIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 3's array: the body's result for that window (`Gen.out0_3`: its stores
    as pieces over the input windows' blocks), read through the window's block. -/
theorem flushed3 (c : Dev nD) (t : Fin cfg0.N) :
    (dats m 0 c).flushed 3 t = (cfg0.win 3).cut (grid0.coords t) (out0_3 (iblk m c 0 t) (iblk m c 1 t) (iblk m c 2 t)) := by
  show (cfg0.win 3).cut (grid0.coords t) ((dats m 0 c).after 3 t) = _
  rw [after0_3]

/-- The index map sends distinct grid points to distinct block indices (decided over the 1 point). -/
theorem idx_inj3 : ∀ t t' : Fin cfg0.N, win0_3.index t = win0_3.index t' → t = t' :=
  (by decide +kernel : ∀ t t' : Fin grid0.N, win0_3.index t = win0_3.index t' → t = t')

/-- So two flushing points' blocks share no array index (Lib/Pipeline/Cells.lean `Window.disjoint_blk`). -/
theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj3 t t' h)

/-- BLOCK `t` OF THE FINAL ARRAY, read back through the window, is what point `t` wrote back (`flushed3`), for every
    point that writes back: no other point's block meets it. -/
theorem blocks3 (c : Dev nD) (t : Fin cfg0.N) (hf : (cfg0.win 3).flush t = true) :
    ((cfg0.win 3).blk t).view.read (Elt F) ((dats m 0 c).arrAt 3 cfg0.N) = (dats m 0 c).flushed 3 t :=
  (dats m 0 c).read_blk_arrAt_eq_flushed 3 disjoint3 cfg0.N t t.isLt hf

/-- An index that no flushing point's block covers keeps output window 3's array contents at region entry. -/
theorem entry3 (c : Dev nD) (i : S1x256.Idx) (h : ∀ t : Fin cfg0.N, (cfg0.win 3).flush t = true → i ∉ ((cfg0.win 3).blk t).view.set) :
    (dats m 0 c).arrAt 3 cfg0.N i = V m c (Pipeline.arrRef spec0 3) i := by
  rw [(dats m 0 c).arrAt_apply_of_forall_not_mem 3 cfg0.N i (fun t _ hf => h t hf), A_eq]

/-- WHAT POINT `t` WRITES BACK to output window 4's array: the body's result for that window (`Gen.out0_4`: its stores
    as pieces over the input windows' blocks), read through the window's block. -/
theorem flushed4 (c : Dev nD) (t : Fin cfg0.N) :
    (dats m 0 c).flushed 4 t = (cfg0.win 4).cut (grid0.coords t) (out0_4 (iblk m c 0 t) (iblk m c 1 t) (iblk m c 2 t)) := by
  show (cfg0.win 4).cut (grid0.coords t) ((dats m 0 c).after 4 t) = _
  rw [after0_4]

/-- The index map sends distinct grid points to distinct block indices (decided over the 1 point). -/
theorem idx_inj4 : ∀ t t' : Fin cfg0.N, win0_4.index t = win0_4.index t' → t = t' :=
  (by decide +kernel : ∀ t t' : Fin grid0.N, win0_4.index t = win0_4.index t' → t = t')

/-- So two flushing points' blocks share no array index (Lib/Pipeline/Cells.lean `Window.disjoint_blk`). -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- BLOCK `t` OF THE FINAL ARRAY, read back through the window, is what point `t` wrote back (`flushed4`), for every
    point that writes back: no other point's block meets it. -/
theorem blocks4 (c : Dev nD) (t : Fin cfg0.N) (hf : (cfg0.win 4).flush t = true) :
    ((cfg0.win 4).blk t).view.read (Elt F) ((dats m 0 c).arrAt 4 cfg0.N) = (dats m 0 c).flushed 4 t :=
  (dats m 0 c).read_blk_arrAt_eq_flushed 4 disjoint4 cfg0.N t t.isLt hf

/-- An index that no flushing point's block covers keeps output window 4's array contents at region entry. -/
theorem entry4 (c : Dev nD) (i : S1x256.Idx) (h : ∀ t : Fin cfg0.N, (cfg0.win 4).flush t = true → i ∉ ((cfg0.win 4).blk t).view.set) :
    (dats m 0 c).arrAt 4 cfg0.N i = V m c (Pipeline.arrRef spec0 4) i := by
  rw [(dats m 0 c).arrAt_apply_of_forall_not_mem 4 cfg0.N i (fun t _ hf => h t hf), A_eq]

/-- WHAT POINT `t` WRITES BACK to output window 5's array: the body's result for that window (`Gen.out0_5`: its stores
    as pieces over the input windows' blocks), read through the window's block. -/
theorem flushed5 (c : Dev nD) (t : Fin cfg0.N) :
    (dats m 0 c).flushed 5 t = (cfg0.win 5).cut (grid0.coords t) (out0_5 (iblk m c 0 t) (iblk m c 1 t) (iblk m c 2 t)) := by
  show (cfg0.win 5).cut (grid0.coords t) ((dats m 0 c).after 5 t) = _
  rw [after0_5]

/-- The index map sends distinct grid points to distinct block indices (decided over the 1 point). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index that no flushing point's block covers keeps output window 5's array contents at region entry. -/
theorem entry5 (c : Dev nD) (i : S10x1024x10240.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- WHAT POINT `t` WRITES BACK to output window 6's array: the body's result for that window (`Gen.out0_6`: its stores
    as pieces over the input windows' blocks), read through the window's block. -/
theorem flushed6 (c : Dev nD) (t : Fin cfg0.N) :
    (dats m 0 c).flushed 6 t = (cfg0.win 6).cut (grid0.coords t) (out0_6 (iblk m c 0 t) (iblk m c 1 t) (iblk m c 2 t)) := by
  show (cfg0.win 6).cut (grid0.coords t) ((dats m 0 c).after 6 t) = _
  rw [after0_6]

/-- The index map sends distinct grid points to distinct block indices (decided over the 1 point). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S1x256.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v0_0) = (dats m 0 c).arrAt 3 cfg0.N :=
  (h c).1 3

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v0_1) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0_2) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_3) = (dats m 0 c).arrAt 6 cfg0.N :=
  (h c).1 6

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 3 cfg0.N
      ∧ r.2.mem ((c : Thread nD τ).loc main_v0_1) = (dats m 0 c).arrAt 4 cfg0.N
      ∧ r.2.mem ((c : Thread nD τ).loc main_v0_2) = (dats m 0 c).arrAt 5 cfg0.N
      ∧ r.2.mem ((c : Thread nD τ).loc main_v0_3) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post3 m r h c,
      post4 m r h c,
      post5 m r h c,
      post6 m r h c,
      kept_main_arg0 m r h c,
      kept_main_arg1 m r h c,
      kept_main_arg2 m r h c⟩)
    (run_main m ρ)

/-! ## Closed form at one grid point: every window's block is its array -/

theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S10x1024x10240.Idx) : ((cfg0.win 0).blk t).view.emb j = j := by
  obtain ⟨e0, e1, e2⟩ := idx_zero0 t
  funext a; apply Fin.ext
  match a with
  | ⟨0, _⟩ => show win0_0.index t (0 : Fin 3) * 10 + 1 * (j 0).val = (j 0).val; omega
  | ⟨1, _⟩ => show win0_0.index t (1 : Fin 3) * 1024 + 1 * (j 1).val = (j 1).val; omega
  | ⟨2, _⟩ => show win0_0.index t (2 : Fin 3) * 10240 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0] : Fin 2 → Nat) = fun _ => 0 := funext fun a => by fin_cases a <;> rfl

/-- Window 1's block index at the one point is zero on every axis. -/
theorem idx_zero1 : ∀ t : Fin cfg0.N, win0_1.index t (0 : Fin 2) = 0 ∧ win0_1.index t (1 : Fin 2) = 0 :=
  (by decide +kernel : ∀ t : Fin grid0.N, _)

/-- An index of window 1's block is the same index of its array. -/
theorem emb1 (t : Fin cfg0.N) (j : S1024x256.Idx) : ((cfg0.win 1).blk t).view.emb j = j := by
  obtain ⟨e0, e1⟩ := idx_zero1 t
  funext a; apply Fin.ext
  match a with
  | ⟨0, _⟩ => show win0_1.index t (0 : Fin 2) * 1024 + 1 * (j 0).val = (j 0).val; omega
  | ⟨1, _⟩ => show win0_1.index t (1 : Fin 2) * 256 + 1 * (j 1).val = (j 1).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0] : Fin 1 → Nat) = fun _ => 0 := funext fun a => by fin_cases a <;> rfl

/-- Window 2's block index at the one point is zero on every axis. -/
theorem idx_zero2 : ∀ t : Fin cfg0.N, win0_2.index t (0 : Fin 1) = 0 :=
  (by decide +kernel : ∀ t : Fin grid0.N, _)

/-- An index of window 2's block is the same index of its array. -/
theorem emb2 (t : Fin cfg0.N) (j : S256.Idx) : ((cfg0.win 2).blk t).view.emb j = j := by
  have e0 := idx_zero2 t
  funext a; apply Fin.ext
  match a with
  | ⟨0, _⟩ => show win0_2.index t (0 : Fin 1) * 256 + 1 * (j 0).val = (j 0).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0] : Fin 2 → Nat) = fun _ => 0 := funext fun a => by fin_cases a <;> rfl

/-- Window 3's block index at the one point is zero on every axis. -/
theorem idx_zero3 : ∀ t : Fin cfg0.N, win0_3.index t (0 : Fin 2) = 0 ∧ win0_3.index t (1 : Fin 2) = 0 :=
  (by decide +kernel : ∀ t : Fin grid0.N, _)

/-- An index of window 3's block is the same index of its array. -/
theorem emb3 (t : Fin cfg0.N) (j : S1x256.Idx) : ((cfg0.win 3).blk t).view.emb j = j := by
  obtain ⟨e0, e1⟩ := idx_zero3 t
  funext a; apply Fin.ext
  match a with
  | ⟨0, _⟩ => show win0_3.index t (0 : Fin 2) * 1 + 1 * (j 0).val = (j 0).val; omega
  | ⟨1, _⟩ => show win0_3.index t (1 : Fin 2) * 256 + 1 * (j 1).val = (j 1).val; omega

theorem hz4 : (![0, 0] : Fin 2 → Nat) = fun _ => 0 := funext fun a => by fin_cases a <;> rfl

/-- Window 4's block index at the one point is zero on every axis. -/
theorem idx_zero4 : ∀ t : Fin cfg0.N, win0_4.index t (0 : Fin 2) = 0 ∧ win0_4.index t (1 : Fin 2) = 0 :=
  (by decide +kernel : ∀ t : Fin grid0.N, _)

/-- An index of window 4's block is the same index of its array. -/
theorem emb4 (t : Fin cfg0.N) (j : S1x256.Idx) : ((cfg0.win 4).blk t).view.emb j = j := by
  obtain ⟨e0, e1⟩ := idx_zero4 t
  funext a; apply Fin.ext
  match a with
  | ⟨0, _⟩ => show win0_4.index t (0 : Fin 2) * 1 + 1 * (j 0).val = (j 0).val; omega
  | ⟨1, _⟩ => show win0_4.index t (1 : Fin 2) * 256 + 1 * (j 1).val = (j 1).val; omega

theorem hz5 : (![0, 0, 0] : Fin 3 → Nat) = fun _ => 0 := funext fun a => by fin_cases a <;> rfl

/-- Window 5's block index at the one point is zero on every axis. -/
theorem idx_zero5 : ∀ t : Fin cfg0.N, win0_5.index t (0 : Fin 3) = 0 ∧ win0_5.index t (1 : Fin 3) = 0 ∧ win0_5.index t (2 : Fin 3) = 0 :=
  (by decide +kernel : ∀ t : Fin grid0.N, _)

/-- An index of window 5's block is the same index of its array. -/
theorem emb5 (t : Fin cfg0.N) (j : S10x1024x10240.Idx) : ((cfg0.win 5).blk t).view.emb j = j := by
  obtain ⟨e0, e1, e2⟩ := idx_zero5 t
  funext a; apply Fin.ext
  match a with
  | ⟨0, _⟩ => show win0_5.index t (0 : Fin 3) * 10 + 1 * (j 0).val = (j 0).val; omega
  | ⟨1, _⟩ => show win0_5.index t (1 : Fin 3) * 1024 + 1 * (j 1).val = (j 1).val; omega
  | ⟨2, _⟩ => show win0_5.index t (2 : Fin 3) * 10240 + 1 * (j 2).val = (j 2).val; omega

theorem hz6 : (![0, 0] : Fin 2 → Nat) = fun _ => 0 := funext fun a => by fin_cases a <;> rfl

/-- Window 6's block index at the one point is zero on every axis. -/
theorem idx_zero6 : ∀ t : Fin cfg0.N, win0_6.index t (0 : Fin 2) = 0 ∧ win0_6.index t (1 : Fin 2) = 0 :=
  (by decide +kernel : ∀ t : Fin grid0.N, _)

/-- An index of window 6's block is the same index of its array. -/
theorem emb6 (t : Fin cfg0.N) (j : S1x256.Idx) : ((cfg0.win 6).blk t).view.emb j = j := by
  obtain ⟨e0, e1⟩ := idx_zero6 t
  funext a; apply Fin.ext
  match a with
  | ⟨0, _⟩ => show win0_6.index t (0 : Fin 2) * 1 + 1 * (j 0).val = (j 0).val; omega
  | ⟨1, _⟩ => show win0_6.index t (1 : Fin 2) * 256 + 1 * (j 1).val = (j 1).val; omega

/-! ### Output window 3: the array after the run -/

/-- What the window's array ends holding: `out0_3` applied to the argument arrays in place of the input blocks (a value that the
    frame states apart, `kK_payN a…`, keeps its loads inside its own definition). -/
abbrev G3 (a0 : Vec F S10x1024x10240 .bf16) (a1 : Vec F S1024x256 .f32) (a2 : Vec F S256 .f32) : Vec F S1x256 .f32 :=
  k0_pay4 a0

/-- A load of the whole of a block reads the block, and the one store through the whole rectangle leaves its payload. -/
theorem out3_eq (a0 : Vec F S10x1024x10240 .bf16) (a1 : Vec F S1024x256 .f32) (a2 : Vec F S256 .f32) : out0_3 (F := F) a0 a1 a2 = G3 a0 a1 a2 := by
  unfold out0_3
  rw [View.canon_unit_zero hz3, View.ld_unit_zero (S := S10x1024x10240) hz0 _ a0]

/-- Cutting the point's block out of `X` and reading `X` through the block's view give the same. -/
theorem cut3_eq (t : Fin cfg0.N) (X : Vec F S1x256 .f32) :
    (cfg0.win 3).cut (grid0.coords t) X = ((cfg0.win 3).blk t).view.read (Elt F) X := by
  funext j
  show X j = X (((cfg0.win 3).blk t).view.emb j)
  rw [emb3]

/-- WHAT THE POINT WRITES BACK is its block of `G3` of the argument arrays as the region finds them. -/
theorem flushed3_eq (c : Dev nD) (t : Fin cfg0.N) :
    (dats m 0 c).flushed 3 t = ((cfg0.win 3).blk t).view.read (Elt F) (G3 (V m c main_arg0) (V m c main_arg1) (V m c main_arg2)) := by
  show (cfg0.win 3).cut (grid0.coords t) ((dats m 0 c).after 3 t) = _
  rw [after0_3, out3_eq, iblk0_eq, iblk1_eq, iblk2_eq]
  exact cut3_eq t _

/-- Every index of the array is in the point's block. -/
theorem covered3 (i : S1x256.Idx) :
    ∃ t : Fin cfg0.N, (cfg0.win 3).flush t = true ∧ i ∈ ((cfg0.win 3).blk t).view.set :=
  ⟨(⟨0, by decide⟩ : Fin cfg0.N), flush0_3 _, by have h := ((cfg0.win 3).blk (⟨0, by decide⟩ : Fin cfg0.N)).view.emb_mem_set i; rwa [emb3] at h⟩

/-- THE ARRAY after the run: `G3` of the argument arrays as launched. -/
theorem final3 (c : Dev nD) : (dats m 0 c).arrAt 3 cfg0.N = G3 (m ((c : Thread nD τ).loc main_arg0)) (m ((c : Thread nD τ).loc main_arg1)) (m ((c : Thread nD τ).loc main_arg2)) :=
  ((dats m 0 c).arrAt_eq_of_cover 3 (G3 (V m c main_arg0) (V m c main_arg1) (V m c main_arg2)) (fun t _ => flushed3_eq m c t) covered3).trans (by rw [V_main_arg0, V_main_arg1, V_main_arg2])

/-! ### Output window 4: the array after the run -/

/-- What the window's array ends holding: `out0_4` applied to the argument arrays in place of the input blocks (a value that the
    frame states apart, `kK_payN a…`, keeps its loads inside its own definition). -/
abbrev G4 (a0 : Vec F S10x1024x10240 .bf16) (a1 : Vec F S1024x256 .f32) (a2 : Vec F S256 .f32) : Vec F S1x256 .f32 :=
  k0_pay5 a0 (View.ld a1 r0_2)

/-- A load of the whole of a block reads the block, and the one store through the whole rectangle leaves its payload. -/
theorem out4_eq (a0 : Vec F S10x1024x10240 .bf16) (a1 : Vec F S1024x256 .f32) (a2 : Vec F S256 .f32) : out0_4 (F := F) a0 a1 a2 = G4 a0 a1 a2 := by
  unfold out0_4
  rw [View.canon_unit_zero hz4, View.ld_unit_zero (S := S10x1024x10240) hz0 _ a0]

/-- Cutting the point's block out of `X` and reading `X` through the block's view give the same. -/
theorem cut4_eq (t : Fin cfg0.N) (X : Vec F S1x256 .f32) :
    (cfg0.win 4).cut (grid0.coords t) X = ((cfg0.win 4).blk t).view.read (Elt F) X := by
  funext j
  show X j = X (((cfg0.win 4).blk t).view.emb j)
  rw [emb4]

/-- WHAT THE POINT WRITES BACK is its block of `G4` of the argument arrays as the region finds them. -/
theorem flushed4_eq (c : Dev nD) (t : Fin cfg0.N) :
    (dats m 0 c).flushed 4 t = ((cfg0.win 4).blk t).view.read (Elt F) (G4 (V m c main_arg0) (V m c main_arg1) (V m c main_arg2)) := by
  show (cfg0.win 4).cut (grid0.coords t) ((dats m 0 c).after 4 t) = _
  rw [after0_4, out4_eq, iblk0_eq, iblk1_eq, iblk2_eq]
  exact cut4_eq t _

/-- Every index of the array is in the point's block. -/
theorem covered4 (i : S1x256.Idx) :
    ∃ t : Fin cfg0.N, (cfg0.win 4).flush t = true ∧ i ∈ ((cfg0.win 4).blk t).view.set :=
  ⟨(⟨0, by decide⟩ : Fin cfg0.N), flush0_4 _, by have h := ((cfg0.win 4).blk (⟨0, by decide⟩ : Fin cfg0.N)).view.emb_mem_set i; rwa [emb4] at h⟩

/-- THE ARRAY after the run: `G4` of the argument arrays as launched. -/
theorem final4 (c : Dev nD) : (dats m 0 c).arrAt 4 cfg0.N = G4 (m ((c : Thread nD τ).loc main_arg0)) (m ((c : Thread nD τ).loc main_arg1)) (m ((c : Thread nD τ).loc main_arg2)) :=
  ((dats m 0 c).arrAt_eq_of_cover 4 (G4 (V m c main_arg0) (V m c main_arg1) (V m c main_arg2)) (fun t _ => flushed4_eq m c t) covered4).trans (by rw [V_main_arg0, V_main_arg1, V_main_arg2])

/-! ### Output window 5: the array after the run -/

/-- What the window's array ends holding: `out0_5` applied to the argument arrays in place of the input blocks (a value that the
    frame states apart, `kK_payN a…`, keeps its loads inside its own definition). -/
abbrev G5 (a0 : Vec F S10x1024x10240 .bf16) (a1 : Vec F S1024x256 .f32) (a2 : Vec F S256 .f32) : Vec F S10x1024x10240 .fp8e4m3 :=
  k0_pay1 (k0_pay2 a0) a2

/-- A load of the whole of a block reads the block, and the one store through the whole rectangle leaves its payload. -/
theorem out5_eq (a0 : Vec F S10x1024x10240 .bf16) (a1 : Vec F S1024x256 .f32) (a2 : Vec F S256 .f32) : out0_5 (F := F) a0 a1 a2 = G5 a0 a1 a2 := by
  unfold out0_5
  rw [View.canon_unit_zero hz5, View.ld_unit_zero (S := S10x1024x10240) hz0 _ a0, View.ld_unit_zero (S := S256) hz2 _ a2]

/-- Cutting the point's block out of `X` and reading `X` through the block's view give the same. -/
theorem cut5_eq (t : Fin cfg0.N) (X : Vec F S10x1024x10240 .fp8e4m3) :
    (cfg0.win 5).cut (grid0.coords t) X = ((cfg0.win 5).blk t).view.read (Elt F) X := by
  funext j
  show X j = X (((cfg0.win 5).blk t).view.emb j)
  rw [emb5]

/-- WHAT THE POINT WRITES BACK is its block of `G5` of the argument arrays as the region finds them. -/
theorem flushed5_eq (c : Dev nD) (t : Fin cfg0.N) :
    (dats m 0 c).flushed 5 t = ((cfg0.win 5).blk t).view.read (Elt F) (G5 (V m c main_arg0) (V m c main_arg1) (V m c main_arg2)) := by
  show (cfg0.win 5).cut (grid0.coords t) ((dats m 0 c).after 5 t) = _
  rw [after0_5, out5_eq, iblk0_eq, iblk1_eq, iblk2_eq]
  exact cut5_eq t _

/-- Every index of the array is in the point's block. -/
theorem covered5 (i : S10x1024x10240.Idx) :
    ∃ t : Fin cfg0.N, (cfg0.win 5).flush t = true ∧ i ∈ ((cfg0.win 5).blk t).view.set :=
  ⟨(⟨0, by decide⟩ : Fin cfg0.N), flush0_5 _, by have h := ((cfg0.win 5).blk (⟨0, by decide⟩ : Fin cfg0.N)).view.emb_mem_set i; rwa [emb5] at h⟩

/-- THE ARRAY after the run: `G5` of the argument arrays as launched. -/
theorem final5 (c : Dev nD) : (dats m 0 c).arrAt 5 cfg0.N = G5 (m ((c : Thread nD τ).loc main_arg0)) (m ((c : Thread nD τ).loc main_arg1)) (m ((c : Thread nD τ).loc main_arg2)) :=
  ((dats m 0 c).arrAt_eq_of_cover 5 (G5 (V m c main_arg0) (V m c main_arg1) (V m c main_arg2)) (fun t _ => flushed5_eq m c t) covered5).trans (by rw [V_main_arg0, V_main_arg1, V_main_arg2])

/-! ### Output window 6: the array after the run -/

/-- What the window's array ends holding: `out0_6` applied to the argument arrays in place of the input blocks (a value that the
    frame states apart, `kK_payN a…`, keeps its loads inside its own definition). -/
abbrev G6 (a0 : Vec F S10x1024x10240 .bf16) (a1 : Vec F S1024x256 .f32) (a2 : Vec F S256 .f32) : Vec F S1x256 .f32 :=
  k0_pay6 a2

/-- A load of the whole of a block reads the block, and the one store through the whole rectangle leaves its payload. -/
theorem out6_eq (a0 : Vec F S10x1024x10240 .bf16) (a1 : Vec F S1024x256 .f32) (a2 : Vec F S256 .f32) : out0_6 (F := F) a0 a1 a2 = G6 a0 a1 a2 := by
  unfold out0_6
  rw [View.canon_unit_zero hz6, View.ld_unit_zero (S := S256) hz2 _ a2]

/-- Cutting the point's block out of `X` and reading `X` through the block's view give the same. -/
theorem cut6_eq (t : Fin cfg0.N) (X : Vec F S1x256 .f32) :
    (cfg0.win 6).cut (grid0.coords t) X = ((cfg0.win 6).blk t).view.read (Elt F) X := by
  funext j
  show X j = X (((cfg0.win 6).blk t).view.emb j)
  rw [emb6]

/-- WHAT THE POINT WRITES BACK is its block of `G6` of the argument arrays as the region finds them. -/
theorem flushed6_eq (c : Dev nD) (t : Fin cfg0.N) :
    (dats m 0 c).flushed 6 t = ((cfg0.win 6).blk t).view.read (Elt F) (G6 (V m c main_arg0) (V m c main_arg1) (V m c main_arg2)) := by
  show (cfg0.win 6).cut (grid0.coords t) ((dats m 0 c).after 6 t) = _
  rw [after0_6, out6_eq, iblk0_eq, iblk1_eq, iblk2_eq]
  exact cut6_eq t _

/-- Every index of the array is in the point's block. -/
theorem covered6 (i : S1x256.Idx) :
    ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩

/-- THE ARRAY after the run: `G6` of the argument arrays as launched. -/
theorem final6 (c : Dev nD) : (dats m 0 c).arrAt 6 cfg0.N = G6 (m ((c : Thread nD τ).loc main_arg0)) (m ((c : Thread nD τ).loc main_arg1)) (m ((c : Thread nD τ).loc main_arg2)) :=
  ((dats m 0 c).arrAt_eq_of_cover 6 (G6 (V m c main_arg0) (V m c main_arg1) (V m c main_arg2)) (fun t _ => flushed6_eq m c t) covered6).trans (by rw [V_main_arg0, V_main_arg1, V_main_arg2])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G3 (m ((c : Thread nD τ).loc main_arg0)) (m ((c : Thread nD τ).loc main_arg1)) (m ((c : Thread nD τ).loc main_arg2))
      ∧ r.2.mem ((c : Thread nD τ).loc main_v0_1) = G4 (m ((c : Thread nD τ).loc main_arg0)) (m ((c : Thread nD τ).loc main_arg1)) (m ((c : Thread nD τ).loc main_arg2))
      ∧ r.2.mem ((c : Thread nD τ).loc main_v0_2) = G5 (m ((c : Thread nD τ).loc main_arg0)) (m ((c : Thread nD τ).loc main_arg1)) (m ((c : Thread nD τ).loc main_arg2))
      ∧ r.2.mem ((c : Thread nD τ).loc main_v0_3) = G6 (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(post3 m r h c).trans (final3 m c),
      (post4 m r h c).trans (final4 m c),
      (post5 m r h c).trans (final5 m c),
      (post6 m r h c).trans (final6 m c),
      kept_main_arg0 m r h c,
      kept_main_arg1 m r h c,
      kept_main_arg2 m r h c⟩)
    (run_main m ρ)

end Cert.ReferenceIdeal.Value

end
-- ==== Proof.RCodes.lean ====
/-
   The codes and the copy of the scales of the reference, read at an index.
-/
module

public import proofs.«01_k».proof.Proof.RValue
public import Idealize.ShloMosaic.Lib.Pointwise

@[expose] public section

noncomputable section

namespace Cert.ReferenceIdeal.Value

open Cert.ReferenceIdeal Cert.ReferenceIdeal.Gen Idealize.ShloMosaic Idealize.ShloMosaic.TcCoe Idealize.SL.Sem

/-- A code of the reference: the value times the reciprocal of the scale of its group of 40 columns, cut to `[-448, 448]`. -/
theorem codes_apply (x : Vec Ideal S10x1024x10240 .bf16) (s : Vec Ideal S256 .f32) (a : Fin 10) (b : Fin 1024) (n : Fin 10240) :
    k0_pay1 (k0_pay2 x) s (ix3 a b n)
      = FloatOps.truncf .fp8e4m3 bitsLt_fp8e4m3_f32 (FloatOps.minimumf (Scalar.ofBits .f32 0x43E00000#32)
          (FloatOps.maximumf (Scalar.ofBits .f32 0xC3E00000#32) (FloatOps.mulf (FloatOps.extf .f32 bitsLt_bf16_f32 (x (ix3 a b n)))
            (FloatOps.divf (F := Ideal) (φ := .f32) (Scalar.ofBits .f32 0x3F800000#32) (s (ix1 ⟨n.val / 40, by have := n.isLt; omega⟩)))))) := by
  have hn := n.isLt
  have hb := b.isLt
  have ha := a.isLt
  have hg : n.val / 40 < 256 := by omega
  have hr : n.val % 40 < 40 := by omega
  unfold k0_pay1
  refine (shapeCast_apply _ _ _ (ix4 a b ⟨n.val / 40, hg⟩ ⟨n.val % 40, hr⟩) (by
    rw [Shape.rowMajor_val_four, Shape.rowMajor_val_three]
    show ((a.val * 1024 + b.val) * 256 + n.val / 40) * 40 + n.val % 40 = (a.val * 1024 + b.val) * 10240 + n.val
    omega)).trans ?_
  show FloatOps.truncf .fp8e4m3 bitsLt_fp8e4m3_f32 (FloatOps.minimumf (Scalar.ofBits .f32 0x43E00000#32)
          (FloatOps.maximumf (Scalar.ofBits .f32 0xC3E00000#32) (FloatOps.mulf (shapeCast S10x1024x256x40 (k0_pay2 x) shapeCasts_S10x1024x10240_S10x1024x256x40 (ix4 a b ⟨n.val / 40, hg⟩ ⟨n.val % 40, hr⟩))
            (broadcastTo S10x1024x256x40 (shapeCast S1x1x256x1 (shapeCast S256x1 _ shapeCasts_S256_S256x1) shapeCasts_S256x1_S1x1x256x1) broadcasts_S1x1x256x1_S10x1024x256x40 (ix4 a b ⟨n.val / 40, hg⟩ ⟨n.val % 40, hr⟩))))) = _
  rw [shapeCast_apply _ _ (ix4 a b ⟨n.val / 40, hg⟩ ⟨n.val % 40, hr⟩) (ix3 a b n) (by
      rw [Shape.rowMajor_val_four, Shape.rowMajor_val_three]
      show (a.val * 1024 + b.val) * 10240 + n.val = ((a.val * 1024 + b.val) * 256 + n.val / 40) * 40 + n.val % 40
      omega),
    broadcastTo_apply _ _ _ (ix4 0 0 ⟨n.val / 40, hg⟩ 0) (fun a => by match a with | ⟨0, _⟩ => rfl | ⟨1, _⟩ => rfl | ⟨2, _⟩ => rfl | ⟨3, _⟩ => rfl),
    shapeCast_apply _ _ _ (ix2 ⟨n.val / 40, hg⟩ 0) (by
      rw [Shape.rowMajor_val_four, Shape.rowMajor_val_two]
      show n.val / 40 * 1 + 0 = ((0 * 1 + 0) * 256 + n.val / 40) * 1 + 0
      omega),
    shapeCast_apply _ _ _ (ix1 ⟨n.val / 40, hg⟩) (by
      rw [Shape.rowMajor_val_one, Shape.rowMajor_val_two]
      show n.val / 40 = n.val / 40 * 1 + 0
      omega)]
  rfl

/-- The copy of the scales. -/
theorem used_apply (s : Vec Ideal S256 .f32) (k : Fin 256) : k0_pay6 s (ix2 0 k) = s (ix1 k) := by
  unfold k0_pay6
  refine shapeCast_apply _ _ _ _ ?_
  rw [Shape.rowMajor_val_one, Shape.rowMajor_val_two]
  show k.val = 0 * 256 + k.val
  omega

end Cert.ReferenceIdeal.Value

end
-- ==== Proof.RMax.lean ====
/-
   The maximum magnitudes of the reference: when they are at most a number.
-/
module

public import proofs.«01_k».proof.Proof.RCodes

@[expose] public section

noncomputable section

namespace Cert.ReferenceIdeal.Value

open Cert.ReferenceIdeal Cert.ReferenceIdeal.Gen Idealize.ShloMosaic Idealize.ShloMosaic.TcCoe Idealize.SL.Sem

/-- Folding the maximum from `-∞` gives the supremum. -/
theorem fold_max_iSup {ι : Type} (s : Finset ι) (f : ι → EReal) (b : EReal) (hb : b = ⊥) : s.fold max b f = ⨆ i ∈ s, f i := by
  subst hb
  refine eq_of_forall_ge_iff fun u => ?_
  rw [Finset.fold_max_le, iSup₂_le_iff]
  simp

/-- When the maximum magnitude of a group of columns is at most `u`: when that of every element of `x` in these columns is. -/
theorem pay3_le (x : Vec Ideal S10x1024x10240 .bf16) (k : Fin 256) (u : EReal) :
    (k0_pay3 x (ix1 k) : EReal) ≤ u ↔ ∀ (a : Fin 10) (b : Fin 1024) (w : Fin 40),
      (FloatOps.absf (F := Ideal) (φ := .bf16) (x (ix3 a b ⟨40 * k.val + w.val, by omega⟩)) : EReal) ≤ u := by
  have hx : ∀ (i : Fin 10240) (w : Fin 40), shapeCast S10240x256x40 (absf (k0_pay2 x)) shapeCasts_S10x1024x10240_S10240x256x40 (ix3 i k w)
      = FloatOps.absf (F := Ideal) (φ := .bf16) (x (ix3 ⟨i.val / 1024, by omega⟩ ⟨i.val % 1024, by omega⟩ ⟨40 * k.val + w.val, by omega⟩)) := fun i w => by
    refine (shapeCast_apply _ _ _ (ix3 ⟨i.val / 1024, by omega⟩ ⟨i.val % 1024, by omega⟩ ⟨40 * k.val + w.val, by omega⟩) ?_).trans rfl
    rw [Shape.rowMajor_val_three, Shape.rowMajor_val_three]
    show (i.val / 1024 * 1024 + i.val % 1024) * 10240 + (40 * k.val + w.val) = (i.val * 256 + k.val) * 40 + w.val
    omega
  have e : k0_pay3 x (ix1 k) = ⨆ y ∈ Finset.univ.filter fun y => reduces_S10240x256x40_S256.drop y = ix1 k,
      (shapeCast S10240x256x40 (absf (k0_pay2 x)) shapeCasts_S10x1024x10240_S10240x256x40 y : EReal) := by
    unfold k0_pay3
    refine (multiReduction_maximumf_eq_fold _ _ _ _ _ _).trans (fold_max_iSup _ _ _ ?_)
    show Ideal.ofBits .f32 0xFF800000#32 = ⊥
    simp [Ideal.ofBits, Ideal.ieee]
  rw [e, iSup₂_le_iff]
  refine ⟨fun H a b w => ?_, fun H y hy => ?_⟩
  · have ha := a.isLt
    have hb := b.isLt
    have := H (ix3 ⟨1024 * a.val + b.val, by omega⟩ k w) (Finset.mem_filter.2 ⟨Finset.mem_univ _, funext fun d => Fin.ext (by match d with | ⟨0, _⟩ => rfl)⟩)
    rw [hx] at this
    rwa [show (⟨(1024 * a.val + b.val) / 1024, by omega⟩ : Fin 10) = a from Fin.ext (by show (1024 * a.val + b.val) / 1024 = a.val; omega),
      show (⟨(1024 * a.val + b.val) % 1024, by omega⟩ : Fin 1024) = b from Fin.ext (by show (1024 * a.val + b.val) % 1024 = b.val; omega)] at this
  · have e : reduces_S10240x256x40_S256.drop y = ix1 k := (Finset.mem_filter.1 hy).2
    have e1 : (y 1).val = k.val := congrArg (fun z : S256.Idx => (z 0).val) e
    obtain ⟨i, w, rfl⟩ : ∃ (i : Fin 10240) (w : Fin 40), y = ix3 i k w :=
      ⟨y 0, y 2, funext fun d => by match d with | ⟨0, _⟩ => rfl | ⟨1, _⟩ => exact Fin.ext e1 | ⟨2, _⟩ => rfl⟩
    rw [hx]
    exact H _ _ _

/-- The row of maximum magnitudes. -/
theorem pay4_apply (x : Vec Ideal S10x1024x10240 .bf16) (k : Fin 256) : k0_pay4 x (ix2 0 k) = k0_pay3 x (ix1 k) := by
  unfold k0_pay4
  refine shapeCast_apply _ _ _ _ ?_
  rw [Shape.rowMajor_val_one, Shape.rowMajor_val_two]
  show k.val = 0 * 256 + k.val
  omega

end Cert.ReferenceIdeal.Value

end
-- ==== Proof.RScale.lean ====
/-
   The new scales of the reference, read at an index.
-/
module

public import proofs.«01_k».proof.Proof.RMax
public import proofs.«01_k».proof.Proof.Scale
public import Idealize.ShloMosaic.PureOps.Ideal.Laws
public import Idealize.ShloMosaic.Lib.Pipeline.Value

@[expose] public section

noncomputable section

namespace Cert.ReferenceIdeal.Value

open Cert.ReferenceIdeal Cert.ReferenceIdeal.Gen Idealize.ShloMosaic Idealize.ShloMosaic.TcCoe Idealize.SL.Sem

/-- The maxima of this step's row and of the rows of the history kept. -/
theorem hist_apply (x : Vec Ideal S1x256 .f32) (h : Vec Ideal S1023x256 .f32) (k : Fin 256) :
    multiReduction (F := Ideal) (φ := .f32) .maximumf [0] S256 (concatenate S1024x256 0 [⟨S1x256, x⟩, ⟨S1023x256, h⟩] concatenates_S1x256_S1023x256_S1024x256_d0) 0xFF800000#32 reduces_S1024x256_S256 (.inl rfl) rfl (ix1 k)
      = (max (x (ix2 0 k)) (⨆ i : Fin 1023, h (ix2 i k)) : EReal) := by
  have hl : concatenate S1024x256 0 [⟨S1x256, x⟩, ⟨S1023x256, h⟩] concatenates_S1x256_S1023x256_S1024x256_d0 (ix2 0 k) = x (ix2 0 k) :=
    concatenate_pair_apply_left (t := S1024x256) (0 : Fin 2) x h _ _ rfl (ix2 0 k) (fun b => by match b with | ⟨0, _⟩ => rfl | ⟨1, _⟩ => rfl)
  have hr : ∀ i : Fin 1023, concatenate S1024x256 0 [⟨S1x256, x⟩, ⟨S1023x256, h⟩] concatenates_S1x256_S1023x256_S1024x256_d0 (ix2 ⟨i.val + 1, by omega⟩ k) = h (ix2 i k) := fun i =>
    concatenate_pair_apply_right (t := S1024x256) (0 : Fin 2) x h _ _ rfl rfl (ix2 i k) (fun b hb => by match b with | ⟨0, _⟩ => exact absurd rfl hb | ⟨1, _⟩ => rfl) rfl
  generalize concatenate S1024x256 0 [⟨S1x256, x⟩, ⟨S1023x256, h⟩] concatenates_S1x256_S1023x256_S1024x256_d0 = v at hl hr ⊢
  have e : multiReduction (F := Ideal) (φ := .f32) .maximumf [0] S256 v 0xFF800000#32 reduces_S1024x256_S256 (.inl rfl) rfl (ix1 k) = ⨆ i : Fin 1024, (v (ix2 i k) : EReal) := by
    refine (Ideal.multiReduction_maximumf_single _ _ _ _ _ _).trans ((fold_max_iSup _ _ _ ?_).trans (iSup_congr fun r => (iSup_pos (Finset.mem_univ r)).trans ?_))
    · show Ideal.ofBits .f32 0xFF800000#32 = ⊥
      simp [Ideal.ofBits, Ideal.ieee]
    · exact congrArg v (funext fun d => Fin.ext (by match d with | ⟨0, _⟩ => rfl | ⟨1, _⟩ => rfl))
  rw [e, ← hl]
  refine eq_of_forall_ge_iff fun u => ?_
  rw [max_le_iff, iSup_le_iff, iSup_le_iff]
  refine ⟨fun H => ⟨H 0, fun i => by rw [← hr]; exact H _⟩, fun H i => ?_⟩
  rcases Nat.eq_zero_or_pos i.val with h0 | h0
  · obtain rfl : i = 0 := Fin.ext h0
    exact H.1
  · have := H.2 ⟨i.val - 1, by omega⟩
    rw [← hr] at this
    rwa [show (⟨i.val - 1 + 1, by omega⟩ : Fin 1024) = i from Fin.ext (by show i.val - 1 + 1 = i.val; omega)] at this

/-- A new scale of the reference. -/
theorem pay5_apply (x : Vec Ideal S10x1024x10240 .bf16) (h : Vec Ideal S1023x256 .f32) (k : Fin 256) :
    k0_pay5 x h (ix2 0 k) = Cert.Scale.scaleOf (k0_pay4 x (ix2 0 k)) (⨆ i : Fin 1023, h (ix2 i k)) := by
  have hv := hist_apply (k0_pay4 x) h k
  unfold k0_pay5
  refine (shapeCast_apply _ _ _ (ix1 k) (by
    rw [Shape.rowMajor_val_one, Shape.rowMajor_val_two]
    show k.val = 0 * 256 + k.val
    omega)).trans ?_
  refine Eq.trans (b := Cert.Scale.scaleR (FloatOps.mulf (F := Ideal) (φ := .f32) (multiReduction (F := Ideal) (φ := .f32) .maximumf [0] S256 (concatenate S1024x256 0 [⟨S1x256, k0_pay4 x⟩, ⟨S1023x256, h⟩] concatenates_S1x256_S1023x256_S1024x256_d0) 0xFF800000#32 reduces_S1024x256_S256 (.inl rfl) rfl (ix1 k)) (FloatOps.ofBits (F := Ideal) .f32 0x3B124925#32))) ?_ (by rw [hv]; rfl)
  unfold k0_pay4
  generalize multiReduction (F := Ideal) (φ := .f32) .maximumf [0] S256 (concatenate S1024x256 0 [⟨S1x256, shapeCast S1x256 (k0_pay3 x) shapeCasts_S256_S1x256⟩, ⟨S1023x256, h⟩] concatenates_S1x256_S1023x256_S1024x256_d0) 0xFF800000#32 reduces_S1024x256_S256 (.inl rfl) rfl = v
  rfl

/-- The rows of the history kept. -/
theorem ld_apply (h : Vec Ideal S1024x256 .f32) (i : Fin 1023) (k : Fin 256) : View.ld h r0_2 (ix2 i k) = h (ix2 ⟨i.val, by omega⟩ k) := by
  refine congrArg h (funext fun a => Fin.ext ?_)
  match a with
  | ⟨0, _⟩ => show 0 + 1 * i.val = i.val; omega
  | ⟨1, _⟩ => show 0 + 1 * k.val = k.val; omega

end Cert.ReferenceIdeal.Value

end
-- ==== Proof.lean ====
module

public import proofs.«01_k».proof.Defs
public import proofs.«01_k».proof.Proof.KernelFrame
public import proofs.«01_k».proof.Proof.KFrame
public import proofs.«01_k».proof.Proof.KPoint
public import proofs.«01_k».proof.Proof.KScale
public import proofs.«01_k».proof.Proof.RCodes
public import proofs.«01_k».proof.Proof.RScale
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import Idealize.ShloMosaic.Adequacy
public import Idealize.ShloMosaic.Init

@[expose] public section

noncomputable section

namespace Cert.Proof

open Idealize.ShloMosaic Idealize.SL.Sem Cert.Kernel

/-- The codes of the kernel are the codes of the reference: at every index the value times the reciprocal of the scale of its
    group of 40 columns, cut to `[-448, 448]`. -/
theorem codes_eq (x : Vec Ideal Cert.KernelIdeal.S10x1024x10240 .bf16) (s : Vec Ideal Cert.KernelIdeal.S1x256 .f32) (s' : Vec Ideal Cert.KernelIdeal.S256 .f32)
    (hs : ∀ k : Fin 256, s (ix2 0 k) = s' (ix1 k)) :
    Cert.KernelIdeal.Value.codes x s = Cert.ReferenceIdeal.Gen.k0_pay1 (F := Ideal) (Cert.ReferenceIdeal.Gen.k0_pay2 x) s' := by
  refine funext fun y => ?_
  obtain ⟨a, b, n, rfl⟩ : ∃ (a : Fin 10) (b : Fin 1024) (n : Fin 10240), y = ix3 a b n :=
    ⟨y 0, y 1, y 2, funext fun a => by match a with | ⟨0, _⟩ => rfl | ⟨1, _⟩ => rfl | ⟨2, _⟩ => rfl⟩
  rw [Cert.ReferenceIdeal.Value.codes_apply, ← hs]
  rfl

/-- The copy of the scales of the kernel is the one of the reference. -/
theorem used_eq (s : Vec Ideal Cert.KernelIdeal.S1x256 .f32) (s' : Vec Ideal Cert.KernelIdeal.S256 .f32) (hs : ∀ k : Fin 256, s (ix2 0 k) = s' (ix1 k)) :
    s = Cert.ReferenceIdeal.Gen.k0_pay6 (F := Ideal) s' := by
  refine funext fun y => ?_
  obtain ⟨k, rfl⟩ : ∃ k : Fin 256, y = ix2 0 k :=
    ⟨y 1, funext fun a => by match a with | ⟨0, _⟩ => exact Subsingleton.elim (α := Fin 1) _ _ | ⟨1, _⟩ => rfl⟩
  rw [Cert.ReferenceIdeal.Value.used_apply, hs]

/-- The maximum magnitudes of the kernel are the ones of the reference: both are at most the numbers no element of the group's 40 columns exceeds. -/
theorem amax_eq (m : (ℓ : Loc Cert.KernelIdeal.nD Cert.KernelIdeal.τ Cert.KernelIdeal.sig) → Buf (Elt Ideal) ℓ) (c : Dev Cert.KernelIdeal.nD) :
    (Cert.KernelIdeal.Gen.dats m 0 c).arrAt 4 Cert.KernelIdeal.cfg0.N = Cert.ReferenceIdeal.Gen.k0_pay4 (F := Ideal) (Cert.KernelIdeal.Gen.V m c Cert.KernelIdeal.main_arg0) := by
  rw [Cert.KernelIdeal.Value.final4 m c ⟨39, by decide⟩ rfl]
  refine funext fun y => ?_
  obtain ⟨k, rfl⟩ : ∃ k : Fin 256, y = ix2 0 k :=
    ⟨y 1, funext fun a => by match a with | ⟨0, _⟩ => exact Subsingleton.elim (α := Fin 1) _ _ | ⟨1, _⟩ => rfl⟩
  rw [Cert.ReferenceIdeal.Value.pay4_apply]
  refine eq_of_forall_ge_iff (α := EReal) fun u => ?_
  rw [Cert.ReferenceIdeal.Value.pay3_le]
  exact Cert.KernelIdeal.Value.amaxs_le_x m c k u ⟨39, by decide⟩ rfl

/-- The new scales of the kernel are the ones of the reference: the power of two that the binary search finds is the one the logarithm gives. -/
theorem new_scale_eq (m : (ℓ : Loc Cert.KernelIdeal.nD Cert.KernelIdeal.τ Cert.KernelIdeal.sig) → Buf (Elt Ideal) ℓ) (c : Dev Cert.KernelIdeal.nD) :
    (Cert.KernelIdeal.Gen.dats m 0 c).arrAt 5 Cert.KernelIdeal.cfg0.N
      = Cert.ReferenceIdeal.Gen.k0_pay5 (F := Ideal) (Cert.KernelIdeal.Gen.V m c Cert.KernelIdeal.main_arg0) (View.ld (Cert.KernelIdeal.Gen.V m c Cert.KernelIdeal.main_arg1) Cert.ReferenceIdeal.Gen.r0_2) := by
  rw [Cert.KernelIdeal.Value.final5 m c ⟨39, by decide⟩ rfl, Cert.KernelIdeal.Value.scales_C m c ⟨39, by decide⟩ (by decide +revert) rfl,
    ← Cert.KernelIdeal.Value.final4 m c ⟨39, by decide⟩ rfl, amax_eq]
  refine funext fun y => ?_
  obtain ⟨k, rfl⟩ : ∃ k : Fin 256, y = ix2 0 k :=
    ⟨y 1, funext fun a => by match a with | ⟨0, _⟩ => exact Subsingleton.elim (α := Fin 1) _ _ | ⟨1, _⟩ => rfl⟩
  rw [Cert.ReferenceIdeal.Value.pay5_apply]
  exact congrArg (Cert.Scale.scaleOf _) (iSup_congr fun i => (Cert.ReferenceIdeal.Value.ld_apply _ i k).symm)

/-- From memories agreeing on the arguments the kernel and the reference end with the same maximum magnitudes, the same new scales,
    the same codes and the same copy of the scales. -/
theorem algebraic : Cert.algebraic_KernelIdeal_ReferenceIdeal (hKernelIdeal := Cert.KernelIdeal.Gen.facts) (hReferenceIdeal := Cert.ReferenceIdeal.Gen.facts) := by
  intro m g m' g' _ h
  refine ⟨fun c => Cert.ReferenceIdeal.Gen.k0_pay4 (F := Ideal) (Cert.KernelIdeal.Gen.V m c Cert.KernelIdeal.main_arg0),
    fun c => Cert.ReferenceIdeal.Gen.k0_pay5 (F := Ideal) (Cert.KernelIdeal.Gen.V m c Cert.KernelIdeal.main_arg0) (View.ld (Cert.KernelIdeal.Gen.V m c Cert.KernelIdeal.main_arg1) Cert.ReferenceIdeal.Gen.r0_2),
    fun c => Cert.KernelIdeal.Value.codes (Cert.KernelIdeal.Gen.V m c Cert.KernelIdeal.main_arg0) (Cert.KernelIdeal.Gen.V m c Cert.KernelIdeal.main_v0),
    fun c => Cert.KernelIdeal.Gen.V m c Cert.KernelIdeal.main_v0, ?_, ?_⟩
  · refine (θ_run Cert.KernelIdeal.defs _ _).mono (fun r hr c => ?_) (Cert.KernelIdeal.Value.run_blocks (F := Ideal) m g)
    obtain ⟨h3, h4, h5, h6, k0, k1, k2⟩ := hr c
    exact ⟨h4.trans (amax_eq m c), h5.trans (new_scale_eq m c), h3.trans (Cert.KernelIdeal.Value.final3 m c), h6.trans (Cert.KernelIdeal.Value.final6 m c), k0, k1, k2⟩
  · refine (θ_run Cert.ReferenceIdeal.defs _ _).mono (fun r hr c => ?_) (Cert.ReferenceIdeal.Value.run (F := Ideal) m' g')
    obtain ⟨h3, h4, h5, h6, k0, k1, k2⟩ := hr c
    obtain ⟨a0, a1, a2⟩ := h c
    have hs : ∀ k : Fin 256, Cert.KernelIdeal.Gen.V m c Cert.KernelIdeal.main_v0 (ix2 0 k)
        = m' ((c.tc : Thread Cert.ReferenceIdeal.nD Cert.ReferenceIdeal.τ).loc Cert.ReferenceIdeal.main_arg2) (ix1 k) := fun k =>
      (Cert.KernelIdeal.Value.V_main_v0 m c k).trans (congrFun a2 (ix1 k)).symm
    refine ⟨h3.trans ?_, h4.trans ?_, h5.trans ?_, h6.trans (used_eq _ _ hs).symm, k0, k1, k2⟩
    · exact congrArg (Cert.ReferenceIdeal.Gen.k0_pay4 (F := Ideal)) (a0.trans (Cert.KernelIdeal.Gen.V_main_arg0 m c).symm)
    · exact congrArg₂ (fun x h => Cert.ReferenceIdeal.Gen.k0_pay5 (F := Ideal) x (View.ld h Cert.ReferenceIdeal.Gen.r0_2))
        (a0.trans (Cert.KernelIdeal.Gen.V_main_arg0 m c).symm) (a1.trans (Cert.KernelIdeal.Gen.V_main_arg1 m c).symm)
    refine Eq.trans ?_ (codes_eq _ _ _ hs).symm
    rw [Cert.KernelIdeal.Gen.V_main_arg0]
    exact congrArg (fun x => Cert.ReferenceIdeal.Gen.k0_pay1 (F := Ideal) (Cert.ReferenceIdeal.Gen.k0_pay2 x) _) a0

/-- Every claim of the certificate. -/
theorem claim : Cert.Claim := ⟨Cert.Kernel.Gen.facts, Cert.KernelIdeal.Gen.facts, Cert.ReferenceIdeal.Gen.facts,
  fun m g _ => Cert.Kernel.Transport.frame m g,
  fun m g _ => Cert.KernelIdeal.Gen.frame m g,
  fun m g _ => Cert.ReferenceIdeal.Gen.frame m g,
  trivial, algebraic⟩

end Cert.Proof

end
